-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x8192 : Shape := ⟨2, ![4096, 8192]⟩
abbrev S1024x8192 : Shape := ⟨2, ![1024, 8192]⟩
abbrev S8x128 : Shape := ⟨2, ![8, 128]⟩
abbrev S4096x512 : Shape := ⟨2, ![4096, 512]⟩
abbrev S1024x512 : Shape := ⟨2, ![1024, 512]⟩
abbrev S1x1 : Shape := ⟨2, ![1, 1]⟩
abbrev S1x1024x512 : Shape := ⟨3, ![1, 1024, 512]⟩
abbrev S1 : Shape := ⟨1, ![1]⟩
abbrev S1x1x1 : Shape := ⟨3, ![1, 1, 1]⟩
abbrev S4x1024x2048 : Shape := ⟨3, ![4, 1024, 2048]⟩
abbrev S3x1024x2048 : Shape := ⟨3, ![3, 1024, 2048]⟩
abbrev S3x8x128 : Shape := ⟨3, ![3, 8, 128]⟩
abbrev S4 : Shape := ⟨1, ![4]⟩
abbrev S3 : Shape := ⟨1, ![3]⟩
abbrev S_ : Shape := ⟨0, ![]⟩
abbrev S1x8x128 : Shape := ⟨3, ![1, 8, 128]⟩
abbrev S1x1024x2048 : Shape := ⟨3, ![1, 1024, 2048]⟩
abbrev S1024x2048 : Shape := ⟨2, ![1024, 2048]⟩
abbrev S1x3x8x128 : Shape := ⟨4, ![1, 3, 8, 128]⟩
abbrev S1x1x1x1 : Shape := ⟨4, ![1, 1, 1, 1]⟩
abbrev S4096x2048 : Shape := ⟨2, ![4096, 2048]⟩

abbrev nBuf : Space → Nat
  | .hbm => 7
  | .vmem => 18
  | .smem => 1
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S1024x8192, .bf16⟩
  | .hbm, ⟨3, _⟩ => ⟨S8x128, .f32⟩
  | .hbm, ⟨4, _⟩ => ⟨S4x1024x2048, .i8⟩
  | .hbm, ⟨5, _⟩ => ⟨S8x128, .f32⟩
  | .hbm, ⟨6, _⟩ => ⟨S4096x2048, .f32⟩
  | .local _ .vmem, ⟨0, _⟩ => ⟨S1024x4096, .f32⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | .local _ .vmem, ⟨5, _⟩ => ⟨S8x128, .f32⟩
  | .local _ .vmem, ⟨6, _⟩ => ⟨S1024x4096, .bf16⟩
  | .local _ .vmem, ⟨7, _⟩ => ⟨S8x128, .f32⟩
  | .local _ .vmem, ⟨8, _⟩ => ⟨S8x128, .f32⟩
  | .local _ .vmem, ⟨9, _⟩ => ⟨S4x1024x2048, .bf16⟩
  | .local _ .vmem, ⟨10, _⟩ => ⟨S4x1024x2048, .i8⟩
  | .local _ .vmem, ⟨11, _⟩ => ⟨S3x1024x2048, .i8⟩
  | .local _ .vmem, ⟨12, _⟩ => ⟨S3x8x128, .f32⟩
  | .local _ .vmem, ⟨13, _⟩ => ⟨S1x1024x2048, .i8⟩
  | .local _ .vmem, ⟨14, _⟩ => ⟨S1x1024x2048, .i8⟩
  | .local _ .vmem, ⟨15, _⟩ => ⟨S8x128, .f32⟩
  | .local _ .vmem, ⟨16, _⟩ => ⟨S1024x2048, .f32⟩
  | .local _ .vmem, ⟨17, _⟩ => ⟨S1024x2048, .f32⟩
  | .local _ .smem, ⟨0, _⟩ => ⟨S1x1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc1_scratch3 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_scratch0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc2_sem0_0 : DmaSem sig := 28
abbrev cc2_sem0_1 : DmaSem sig := 29
abbrev cc2_sem1_0 : DmaSem sig := 30
abbrev cc2_sem2_0 : DmaSem sig := 31
abbrev cc2_sem2_1 : DmaSem sig := 32
abbrev barrier0 : Sem sig := 0

abbrev nD : Nat := 4
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

def k1_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k1_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k1_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k1_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_28 : BitVec 32 := 1#32
  let v43 : BitVec 32 := Scalar.addi v2 c1_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c1_i32_38 : BitVec 32 := 1#32
  let v54 : BitVec 32 := Scalar.muli v53 c1_i32_38
  let v55 : BitVec 32 := Scalar.addi c0_i32_39 v54
  v55.toNat
def k1_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_42 : BitVec 32 := 2#32
  let v62 : BitVec 32 := Scalar.addi v2 c2_i32_42
  let c4_i32_43 : BitVec 32 := 4#32
  let c0_i32_44 : BitVec 32 := 0#32
  let v63 : BitVec 1 := Scalar.cmpi .eq c4_i32_43 c0_i32_44
  let c1_i32_45 : BitVec 32 := 1#32
  let v64 : BitVec 32 := Scalar.select v63 c1_i32_45 c4_i32_43
  let v65 : BitVec 32 := Scalar.remsi v62 v64
  let c0_i32_47 : BitVec 32 := 0#32
  let v67 : BitVec 1 := Scalar.cmpi .slt v65 c0_i32_47
  let c0_i32_48 : BitVec 32 := 0#32
  let v68 : BitVec 1 := Scalar.cmpi .slt v64 c0_i32_48
  let v69 : BitVec 1 := Scalar.xori v67 v68
  let c0_i32_46 : BitVec 32 := 0#32
  let v66 : BitVec 1 := Scalar.cmpi .ne v65 c0_i32_46
  let v70 : BitVec 1 := Scalar.andi v69 v66
  let v71 : BitVec 32 := Scalar.addi v65 v64
  let v72 : BitVec 32 := Scalar.select v70 v71 v65
  let c1_i32_52 : BitVec 32 := 1#32
  let v73 : BitVec 32 := Scalar.muli v72 c1_i32_52
  let v74 : BitVec 32 := Scalar.addi c0_i32_53 v73
  v74.toNat
def k1_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_56 : BitVec 32 := 3#32
  let v81 : BitVec 32 := Scalar.addi v2 c3_i32_56
  let c4_i32_57 : BitVec 32 := 4#32
  let c0_i32_58 : BitVec 32 := 0#32
  let v82 : BitVec 1 := Scalar.cmpi .eq c4_i32_57 c0_i32_58
  let c1_i32_59 : BitVec 32 := 1#32
  let v83 : BitVec 32 := Scalar.select v82 c1_i32_59 c4_i32_57
  let v84 : BitVec 32 := Scalar.remsi v81 v83
  let c0_i32_61 : BitVec 32 := 0#32
  let v86 : BitVec 1 := Scalar.cmpi .slt v84 c0_i32_61
  let c0_i32_62 : BitVec 32 := 0#32
  let v87 : BitVec 1 := Scalar.cmpi .slt v83 c0_i32_62
  let v88 : BitVec 1 := Scalar.xori v86 v87
  let c0_i32_60 : BitVec 32 := 0#32
  let v85 : BitVec 1 := Scalar.cmpi .ne v84 c0_i32_60
  let v89 : BitVec 1 := Scalar.andi v88 v85
  let v90 : BitVec 32 := Scalar.addi v84 v83
  let v91 : BitVec 32 := Scalar.select v89 v90 v84
  let c1_i32_66 : BitVec 32 := 1#32
  let v92 : BitVec 32 := Scalar.muli v91 c1_i32_66
  let v93 : BitVec 32 := Scalar.addi c0_i32_67 v92
  v93.toNat
def k1_off1 (d0 : Dev nD) (c1_i32_70 : BitVec 32) : Fin 2 → Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v100 : BitVec 32 := Scalar.addi v2 c1_i32_70
  let c4_i32_71 : BitVec 32 := 4#32
  let c0_i32_72 : BitVec 32 := 0#32
  let v101 : BitVec 1 := Scalar.cmpi .eq c4_i32_71 c0_i32_72
  let c1_i32_73 : BitVec 32 := 1#32
  let v102 : BitVec 32 := Scalar.select v101 c1_i32_73 c4_i32_71
  let v103 : BitVec 32 := Scalar.remsi v100 v102
  let c0_i32_75 : BitVec 32 := 0#32
  let v105 : BitVec 1 := Scalar.cmpi .slt v103 c0_i32_75
  let c0_i32_76 : BitVec 32 := 0#32
  let v106 : BitVec 1 := Scalar.cmpi .slt v102 c0_i32_76
  let v107 : BitVec 1 := Scalar.xori v105 v106
  let c0_i32_74 : BitVec 32 := 0#32
  let v104 : BitVec 1 := Scalar.cmpi .ne v103 c0_i32_74
  let v108 : BitVec 1 := Scalar.andi v107 v104
  let v109 : BitVec 32 := Scalar.addi v103 v102
  let v110 : BitVec 32 := Scalar.select v108 v109 v103
  let c2048_i32 : BitVec 32 := 2048#32
  let v111 : BitVec 32 := Scalar.muli v110 c2048_i32
  ![0, v111.toNat]
def k1_off2 (d0 : Dev nD) : Fin 2 → Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_108 : BitVec 32 := 2048#32
  let v151 : BitVec 32 := Scalar.muli v2 c2048_i32_108
  ![0, v151.toNat]
def k1_dev7 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_161 : BitVec 32 := 1#32
  let v202 : BitVec 32 := Scalar.addi v2 c1_i32_161
  let c4_i32_162 : BitVec 32 := 4#32
  let c0_i32_163 : BitVec 32 := 0#32
  let v203 : BitVec 1 := Scalar.cmpi .eq c4_i32_162 c0_i32_163
  let c1_i32_164 : BitVec 32 := 1#32
  let v204 : BitVec 32 := Scalar.select v203 c1_i32_164 c4_i32_162
  let v205 : BitVec 32 := Scalar.remsi v202 v204
  let c0_i32_166 : BitVec 32 := 0#32
  let v207 : BitVec 1 := Scalar.cmpi .slt v205 c0_i32_166
  let c0_i32_167 : BitVec 32 := 0#32
  let v208 : BitVec 1 := Scalar.cmpi .slt v204 c0_i32_167
  let v209 : BitVec 1 := Scalar.xori v207 v208
  let c0_i32_165 : BitVec 32 := 0#32
  let v206 : BitVec 1 := Scalar.cmpi .ne v205 c0_i32_165
  let v210 : BitVec 1 := Scalar.andi v209 v206
  let v211 : BitVec 32 := Scalar.addi v205 v204
  let v212 : BitVec 32 := Scalar.select v210 v211 v205
  let c1_i32_185 : BitVec 32 := 1#32
  let v232 : BitVec 32 := Scalar.muli v212 c1_i32_185
  let v233 : BitVec 32 := Scalar.addi c0_i32_186 v232
  v233.toNat
def k1_dev8 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_191 : BitVec 32 := 3#32
  let v242 : BitVec 32 := Scalar.addi v2 c3_i32_191
  let c4_i32_192 : BitVec 32 := 4#32
  let c0_i32_193 : BitVec 32 := 0#32
  let v243 : BitVec 1 := Scalar.cmpi .eq c4_i32_192 c0_i32_193
  let c1_i32_194 : BitVec 32 := 1#32
  let v244 : BitVec 32 := Scalar.select v243 c1_i32_194 c4_i32_192
  let v245 : BitVec 32 := Scalar.remsi v242 v244
  let c0_i32_196 : BitVec 32 := 0#32
  let v247 : BitVec 1 := Scalar.cmpi .slt v245 c0_i32_196
  let c0_i32_197 : BitVec 32 := 0#32
  let v248 : BitVec 1 := Scalar.cmpi .slt v244 c0_i32_197
  let v249 : BitVec 1 := Scalar.xori v247 v248
  let c0_i32_195 : BitVec 32 := 0#32
  let v246 : BitVec 1 := Scalar.cmpi .ne v245 c0_i32_195
  let v250 : BitVec 1 := Scalar.andi v249 v246
  let v251 : BitVec 32 := Scalar.addi v245 v244
  let v252 : BitVec 32 := Scalar.select v250 v251 v245
  let c1_i32_214 : BitVec 32 := 1#32
  let v272 : BitVec 32 := Scalar.muli v252 c1_i32_214
  let v273 : BitVec 32 := Scalar.addi c0_i32_215 v272
  v273.toNat
def k1_dev9 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_220 : BitVec 32 := 2#32
  let v282 : BitVec 32 := Scalar.addi v2 c2_i32_220
  let c4_i32_221 : BitVec 32 := 4#32
  let c0_i32_222 : BitVec 32 := 0#32
  let v283 : BitVec 1 := Scalar.cmpi .eq c4_i32_221 c0_i32_222
  let c1_i32_223 : BitVec 32 := 1#32
  let v284 : BitVec 32 := Scalar.select v283 c1_i32_223 c4_i32_221
  let v285 : BitVec 32 := Scalar.remsi v282 v284
  let c0_i32_225 : BitVec 32 := 0#32
  let v287 : BitVec 1 := Scalar.cmpi .slt v285 c0_i32_225
  let c0_i32_226 : BitVec 32 := 0#32
  let v288 : BitVec 1 := Scalar.cmpi .slt v284 c0_i32_226
  let v289 : BitVec 1 := Scalar.xori v287 v288
  let c0_i32_224 : BitVec 32 := 0#32
  let v286 : BitVec 1 := Scalar.cmpi .ne v285 c0_i32_224
  let v290 : BitVec 1 := Scalar.andi v289 v286
  let v291 : BitVec 32 := Scalar.addi v285 v284
  let v292 : BitVec 32 := Scalar.select v290 v291 v285
  let c1_i32_243 : BitVec 32 := 1#32
  let v312 : BitVec 32 := Scalar.muli v292 c1_i32_243
  let v313 : BitVec 32 := Scalar.addi c0_i32_244 v312
  v313.toNat
def k1_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_263 : BitVec 32 := 0#32
  let c0_i32_264 : BitVec 32 := 0#32
  ![v2.toNat, 0, 0]
def k1_off4 (d0 : Dev nD) (c0_i32_277 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v355 : BitVec 32 := Scalar.subi v2 c0_i32_277
  let c1_i32_278 : BitVec 32 := 1#32
  let v356 : BitVec 32 := Scalar.subi v355 c1_i32_278
  let c4_i32_279 : BitVec 32 := 4#32
  let c0_i32_280 : BitVec 32 := 0#32
  let v357 : BitVec 1 := Scalar.cmpi .eq c4_i32_279 c0_i32_280
  let c1_i32_281 : BitVec 32 := 1#32
  let v358 : BitVec 32 := Scalar.select v357 c1_i32_281 c4_i32_279
  let v359 : BitVec 32 := Scalar.remsi v356 v358
  let c0_i32_283 : BitVec 32 := 0#32
  let v361 : BitVec 1 := Scalar.cmpi .slt v359 c0_i32_283
  let c0_i32_284 : BitVec 32 := 0#32
  let v362 : BitVec 1 := Scalar.cmpi .slt v358 c0_i32_284
  let v363 : BitVec 1 := Scalar.xori v361 v362
  let c0_i32_282 : BitVec 32 := 0#32
  let v360 : BitVec 1 := Scalar.cmpi .ne v359 c0_i32_282
  let v364 : BitVec 1 := Scalar.andi v363 v360
  let v365 : BitVec 32 := Scalar.addi v359 v358
  let v366 : BitVec 32 := Scalar.select v364 v365 v359
  let c0_i32_287 : BitVec 32 := 0#32
  let c0_i32_288 : BitVec 32 := 0#32
  ![v366.toNat, 0, 0]
abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x1024x2048 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Slots.lean ====
/-
  Arrays that are a stack of equal planes: the plane a slice of one leading coordinate names, what it reads of an
  array given plane by plane, and how the array's ownership splits into its planes.
-/
module

public import proofs.«01_k».proof.Proof.Gen.KernelIdeal.Launch
public import Idealize.ShloMosaic.Lib.Tactic

@[expose] public section

noncomputable section

namespace Cert.KernelIdeal.Slots

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- `n` planes of `R` rows and `C` columns; one plane. -/
abbrev Sh3 (n R C : ℕ) : Shape := ⟨3, ![n, R, C]⟩
abbrev Sh2 (R C : ℕ) : Shape := ⟨2, ![R, C]⟩

section Index

variable {n R C : ℕ} {α : Type}

/-- An index of the stack without its plane. -/
def tail (i : (Sh3 n R C).Idx) : (Sh2 R C).Idx
  | ⟨0, _⟩ => i 1
  | ⟨1, _⟩ => i 2

/-- An index of a plane, in plane `k` of the stack. -/
def cons (k : Fin n) (j : (Sh2 R C).Idx) : (Sh3 n R C).Idx
  | ⟨0, _⟩ => k
  | ⟨1, _⟩ => j 0
  | ⟨2, _⟩ => j 1

/-- The plane an index lies in. -/
def hd (i : (Sh3 n R C).Idx) : Fin n := i 0

theorem hd_cons (k : Fin n) (j : (Sh2 R C).Idx) : hd (cons k j) = k := rfl
theorem cons_zero (k : Fin n) (j : (Sh2 R C).Idx) : cons k j 0 = k := rfl
theorem tail_cons (k : Fin n) (j : (Sh2 R C).Idx) : tail (cons k j) = j := by
  funext a; fin_cases a <;> rfl
theorem cons_tail (i : (Sh3 n R C).Idx) : cons (hd i) (tail i) = i := by
  funext a; fin_cases a <;> rfl

/-- The stack of the planes `g`. -/
def stack (g : Fin n → (Sh2 R C).Idx → α) : (Sh3 n R C).Idx → α := fun i => g (hd i) (tail i)

theorem stack_apply (g : Fin n → (Sh2 R C).Idx → α) (i : (Sh3 n R C).Idx) : stack g i = g (hd i) (tail i) := rfl
theorem stack_cons (g : Fin n → (Sh2 R C).Idx → α) (k : Fin n) (j : (Sh2 R C).Idx) : stack g (cons k j) = g k j := by
  unfold stack; rw [tail_cons]; rfl

/-- Reading a plane as a stack of one. -/
theorem reshape_one (h : (Sh2 R C).numel = (Sh3 1 R C).numel) (j : (Sh2 R C).Idx) :
    Shape.reshapeEquiv h j = cons (0 : Fin 1) j := by
  refine (Shape.reshapeEquiv_cons_one (d := ![R, C]) h j).trans ?_
  funext a; fin_cases a <;> rfl

theorem reshape_one_symm (h : (Sh3 1 R C).numel = (Sh2 R C).numel) (i : (Sh3 1 R C).Idx) :
    Shape.reshapeEquiv h i = tail i := by
  have e : i = Shape.reshapeEquiv h.symm (tail i) := by
    rw [reshape_one]
    have : hd i = (0 : Fin 1) := Subsingleton.elim _ _
    rw [← this, cons_tail]
  conv_lhs => rw [e]
  exact Shape.rowMajor _ |>.injective (Fin.ext (by rw [Shape.rowMajor_reshapeEquiv, Shape.rowMajor_reshapeEquiv]))

end Index

section View

variable {sp : Space} {e : EltTy} {n R C : ℕ}

theorem inb_slot (k : Fin n) : ∀ a, (![k.val, 0, 0] : Fin 3 → ℕ) a + (Sh3 1 R C).size a ≤ (Sh3 n R C).size a := by
  intro a
  fin_cases a
  · exact k.isLt
  · exact (Nat.zero_add _).le
  · exact (Nat.zero_add _).le

/-- The rectangle of plane `k`. -/
abbrev slotR (k : Fin n) : Rect (Sh3 n R C) := Rect.unit (s := Sh3 n R C) ![k.val, 0, 0] (Sh3 1 R C).size (inb_slot k)

theorem slotR_emb (k : Fin n) (x : (Sh3 1 R C).Idx) : (slotR (R := R) (C := C) k).emb x = cons k (tail x) := by
  have h0 : (x 0).val = 0 := Nat.lt_one_iff.mp (x 0).isLt
  funext a
  apply Fin.ext
  rw [Rect.emb_apply]
  fin_cases a
  · show k.val + 1 * (x 0).val = k.val
    rw [h0]; omega
  · show 0 + 1 * (x 1).val = (x 1).val
    omega
  · show 0 + 1 * (x 2).val = (x 2).val
    omega

theorem mem_slotR (k : Fin n) (i : (Sh3 n R C).Idx) : i ∈ (slotR (R := R) (C := C) k).set ↔ hd i = k := by
  rw [← Rect.map_emb_univ, Finset.mem_map]
  constructor
  · rintro ⟨x, -, rfl⟩; rw [slotR_emb]; rfl
  · intro h; refine ⟨cons 0 (tail i), Finset.mem_univ _, ?_⟩
    rw [slotR_emb, tail_cons, ← h, cons_tail]

variable (v : View sig .tc sp (Sh3 n R C) e) {Val : EltTy → Type}

/-- Plane `k` of the stack under a view. -/
abbrev slotV (k : Fin n) (h : (Sh2 R C).numel = (Sh3 1 R C).numel) : View sig .tc sp (Sh2 R C) e :=
  (v.slice (slotR k)).reshape (Sh2 R C) h

theorem slotV_emb (k : Fin n) (h) (j : (Sh2 R C).Idx) : (slotV v k h).emb j = v.emb (cons k j) := by
  show v.emb ((slotR (R := R) (C := C) k).emb (Shape.reshapeEquiv h j)) = _
  rw [slotR_emb, reshape_one, tail_cons]

theorem slotV_set (k : Fin n) (h) : (slotV v k h).set = (v.slice (slotR k)).set := View.set_reshape _ h

theorem slotV_set_eq (k : Fin n) (h) : (slotV v k h).set = (Finset.univ.filter fun i => hd i = k).map v.emb := by
  rw [slotV_set, View.set_slice]
  congr 1
  ext i
  rw [mem_slotR, Finset.mem_filter]; simp

theorem slotV_disjoint {k k' : Fin n} (hk : k ≠ k') (h) : Disjoint (slotV v k h).set (slotV v k' h).set := by
  rw [slotV_set_eq, slotV_set_eq, Finset.disjoint_map]
  rw [Finset.disjoint_left]
  intro i hi hi'
  exact hk ((Finset.mem_filter.mp hi).2.symm.trans (Finset.mem_filter.mp hi').2)

theorem slotV_biUnion (h) : (Finset.univ.biUnion fun k : Fin n => (slotV v k h).set) = v.set := by
  ext i
  simp only [Finset.mem_biUnion, Finset.mem_univ, true_and]
  constructor
  · rintro ⟨k, hk⟩
    rw [slotV_set_eq] at hk
    obtain ⟨x, -, rfl⟩ := Finset.mem_map.mp hk
    exact v.emb_mem_set x
  · intro hi
    obtain ⟨x, -, rfl⟩ := Finset.mem_map.mp hi
    refine ⟨hd x, ?_⟩
    rw [slotV_set_eq]
    exact Finset.mem_map_of_mem _ (Finset.mem_filter.mpr ⟨Finset.mem_univ _, rfl⟩)

theorem slotV_read (k : Fin n) (h) (f : v.ty.Contents Val) {g : Fin n → (Sh2 R C).Idx → Val e} (hf : v.read Val f = stack g) :
    (slotV v k h).read Val f = g k := by
  funext j
  have : (slotV v k h).read Val f j = v.read Val f (cons k j) := by
    rw [View.read_apply, View.read_apply]
    exact congrArg (fun i => _root_.cast (congrArg Val v.elt_eq) (f i)) (slotV_emb v k h j)
  rw [this, hf, stack_cons]

theorem slotR_read (k : Fin n) (f : v.ty.Contents Val) {g : Fin n → (Sh2 R C).Idx → Val e} (hf : v.read Val f = stack g) :
    (v.slice (slotR k)).read Val f = fun x => g k (tail x) := by
  funext x
  have : (v.slice (slotR k)).read Val f x = v.read Val f (cons k (tail x)) := by
    rw [View.read_apply, View.read_apply]
    exact congrArg (fun i => _root_.cast (congrArg Val v.elt_eq) (f (v.emb i))) (slotR_emb k x)
  rw [this, hf, stack_cons]

end View

/-- What is written through a view, on the view's own elements, is any contents the view reads as what was written. -/
theorem write_eq_of_read {Val : EltTy → Type} {sp : Space} {s : Shape} {e : EltTy} (v : View sig .tc sp s e) (f t : v.ty.Contents Val)
    (w : s.Idx → Val e) (h : v.read Val t = w) : ∀ i ∈ v.set, v.write Val f w Finset.univ i = t i := by
  intro i hi
  obtain ⟨x, -, rfl⟩ := Finset.mem_map.mp hi
  rw [View.write_emb_of_mem _ _ (Finset.mem_univ x), ← h, View.read_apply, _root_.cast_cast, _root_.cast_eq]

end Cert.KernelIdeal.Slots
-- ==== Proof.Base.lean ====
/-
  The exchange between the four devices: the peers, the buffers' planes, the semaphores, and what every buffer is to
  hold as a function of the products `Y` and the block maxima `A` of all the devices.
-/
module

public import proofs.«01_k».proof.Proof.Slots
public import proofs.«01_k».proof.Proof.Gen.KernelIdeal.Skeleton
public import proofs.«01_k».proof.Proof.Gen.KernelIdeal.Points
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Transfers
public import Idealize.ShloMosaic.Lib.StableHlo
public import Idealize.ShloMosaic.Lib.Tactic

@[expose] public section

noncomputable section

namespace Cert.KernelIdeal.Talk

open Cert.KernelIdeal Cert.KernelIdeal.Gen Cert.KernelIdeal.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Peers -/

/-- The device `k + 1` places on, and the one `k + 1` places back, round the four. -/
def pr (c : Dev nD) (k : ℕ) : Dev nD := ⟨(c.val + k + 1) % 4, Nat.mod_lt _ (by decide)⟩
def src (c : Dev nD) (k : ℕ) : Dev nD := ⟨(c.val + (7 - k)) % 4, Nat.mod_lt _ (by decide)⟩

theorem pr_src : ∀ (c : Dev nD) (k : Fin 3), pr (src c k.val) k.val = c := by decide
theorem src_pr : ∀ (c : Dev nD) (k : Fin 3), src (pr c k.val) k.val = c := by decide
theorem pr_rev : ∀ (c : Dev nD) (k : Fin 3), pr (pr c k.val) k.rev.val = c := by decide
theorem pr_three : ∀ c : Dev nD, pr c 3 = c := by decide

theorem dev1_eq : ∀ c : Dev nD, (⟨k1_dev1 c, k1_dev1_lt c⟩ : Dev nD) = pr c (0 : Fin 3).val := by decide +kernel
theorem dev2_eq : ∀ c : Dev nD, (⟨k1_dev2 c, k1_dev2_lt c⟩ : Dev nD) = pr c (1 : Fin 3).val := by decide +kernel
theorem dev3_eq : ∀ c : Dev nD, (⟨k1_dev3 c, k1_dev3_lt c⟩ : Dev nD) = pr c (2 : Fin 3).val := by decide +kernel
theorem dev4_eq : ∀ c : Dev nD, (⟨k1_dev4 c, k1_dev4_lt c⟩ : Dev nD) = pr c (0 : Fin 3).val := by decide +kernel
theorem dev5_eq : ∀ c : Dev nD, (⟨k1_dev5 c, k1_dev5_lt c⟩ : Dev nD) = pr c (1 : Fin 3).val := by decide +kernel
theorem dev6_eq : ∀ c : Dev nD, (⟨k1_dev6 c, k1_dev6_lt c⟩ : Dev nD) = pr c (2 : Fin 3).val := by decide +kernel
theorem dev7_eq : ∀ c : Dev nD, (⟨k1_dev7 c, k1_dev7_lt c⟩ : Dev nD) = pr c (0 : Fin 3).val := by decide +kernel
theorem dev8_eq : ∀ c : Dev nD, (⟨k1_dev8 c, k1_dev8_lt c⟩ : Dev nD) = pr c (2 : Fin 3).val := by decide +kernel
theorem dev9_eq : ∀ c : Dev nD, (⟨k1_dev9 c, k1_dev9_lt c⟩ : Dev nD) = pr c (1 : Fin 3).val := by decide +kernel

theorem off1_eq : ∀ (c : Dev nD) (r : Fin 3), k1_off1 c (BitVec.ofNat 32 (1 + r.val)) = ![0, 2048 * (pr c r.val).val] := by decide +kernel
theorem off2_eq : ∀ c : Dev nD, k1_off2 c = ![0, 2048 * (pr c 3).val] := by decide +kernel
theorem off3_eq : ∀ c : Dev nD, k1_off3 c = ![c.val, 0, 0] := by decide +kernel
theorem off4_eq : ∀ (c : Dev nD) (r : Fin 3), k1_off4 c (BitVec.ofNat 32 r.val) = ![(src c r.val).val, 0, 0] := by decide +kernel

/-! ## Buffers, their planes, and the products' column blocks -/

abbrev yM : Memref sig .tc .hbm S1024x8192 .bf16 := Memref.whole main_v1_0
abbrev aM : Memref sig .tc .vmem S8x128 .f32 := Memref.whole cc1_stg0_0
abbrev qaM : Memref sig .tc .hbm S4x1024x2048 .i8 := Memref.whole main_v2_0
abbrev gM : Memref sig .tc .vmem S8x128 .f32 := Memref.whole cc1_stg1_0
abbrev yvM : Memref sig .tc .vmem S4x1024x2048 .bf16 := Memref.whole cc1_scratch0
abbrev qsM : Memref sig .tc .vmem S4x1024x2048 .i8 := Memref.whole cc1_scratch1
abbrev qrM : Memref sig .tc .vmem S3x1024x2048 .i8 := Memref.whole cc1_scratch2
abbrev arM : Memref sig .tc .vmem S3x8x128 .f32 := Memref.whole cc1_scratch3

section Plane
variable {sp : Space} {e : EltTy} {n R C : ℕ}

/-- Plane `k` of an array of planes. -/
abbrev plane (M : Memref sig .tc sp (Sh3 n R C) e) (h : (Sh3 1 R C).Squeezes (Sh2 R C)) (k : Fin n) : Memref sig .tc sp (Sh2 R C) e :=
  (M.slice (slotR k) (fun _ => rfl)).squeeze (Sh2 R C) h

end Plane

abbrev yvS (k : Fin 4) : Memref sig .tc .vmem S1024x2048 .bf16 := plane (n := 4) (R := 1024) (C := 2048) yvM squeezes_S1x1024x2048_S1024x2048 k
abbrev qsS (k : Fin 4) : Memref sig .tc .vmem S1024x2048 .i8 := plane (n := 4) (R := 1024) (C := 2048) qsM squeezes_S1x1024x2048_S1024x2048 k
abbrev qrS (k : Fin 3) : Memref sig .tc .vmem S1024x2048 .i8 := plane (n := 3) (R := 1024) (C := 2048) qrM squeezes_S1x1024x2048_S1024x2048 k
abbrev arS (k : Fin 3) : Memref sig .tc .vmem S8x128 .f32 := plane (n := 3) (R := 8) (C := 128) arM squeezes_S1x8x128_S8x128 k
abbrev qaS (k : Fin 4) : Memref sig .tc .hbm S1024x2048 .i8 := plane (n := 4) (R := 1024) (C := 2048) qaM squeezes_S1x1024x2048_S1024x2048 k

theorem inb_col (b : Dev nD) : ∀ a, (![0, 2048 * b.val] : Fin 2 → ℕ) a + S1024x2048.size a ≤ S1024x8192.size a := by
  revert b; decide
/-- The rectangle of column block `b`, and the block of a device's product. -/
abbrev colR (b : Dev nD) : Rect S1024x8192 := Rect.unit (s := S1024x8192) ![0, 2048 * b.val] S1024x2048.size (inb_col b)
abbrev yC (b : Dev nD) : Memref sig .tc .hbm S1024x2048 .bf16 := yM.slice (colR b) (fun _ => rfl)

/-- An index of column block `b` in the whole. -/
def colI (b : Dev nD) (j : S1024x2048.Idx) : S1024x8192.Idx
  | ⟨0, _⟩ => j 0
  | ⟨1, _⟩ => ⟨2048 * b.val + (j 1).val, by have h1 : (j 1).val < 2048 := (j 1).isLt; have h2 : b.val < 4 := b.isLt; show _ < 8192; omega⟩

theorem colR_emb (b : Dev nD) (j : S1024x2048.Idx) : (colR b).emb j = colI b j := by
  funext a; apply Fin.ext; rw [Rect.emb_apply]
  fin_cases a
  · show 0 + 1 * (j 0).val = (j 0).val
    omega
  · show 2048 * b.val + 1 * (j 1).val = 2048 * b.val + (j 1).val
    omega

/-! ## What the buffers are to hold -/

/-- Column block `b` of `y`. -/
def col {α : Type} (y : S1024x8192.Idx → α) (b : Dev nD) : S1024x2048.Idx → α := fun j => y (colI b j)

theorem yC_read (b : Dev nD) (f : S1024x8192.Idx → Elt F .bf16) : (yC b).view.read (Elt F) f = col f b := by
  funext j
  exact congrArg f (colR_emb b j)

theorem mem_colR (b : Dev nD) (i : S1024x8192.Idx) : i ∈ (colR b).set ↔ (i 1).val / 2048 = b.val := by
  have h0 : (i 0).val < 1024 := (i 0).isLt
  have h1 : (i 1).val < 8192 := (i 1).isLt
  rw [Rect.mem_set_unit]
  constructor
  · intro h
    have := h 1
    change 2048 * b.val ≤ (i 1).val ∧ (i 1).val < 2048 * b.val + 2048 at this
    omega
  · intro h a
    fin_cases a
    · show 0 ≤ (i 0).val ∧ (i 0).val < 0 + 1024
      omega
    · show 2048 * b.val ≤ (i 1).val ∧ (i 1).val < 2048 * b.val + 2048
      omega

theorem yC_set (b : Dev nD) : (yC b).view.set = (colR b).set := View.set_slice_whole _ _

/-- A block's codes: times the inverse scale, to the nearest integer, clipped to ±127. -/
def qvec (inv : F .f32) (v : FVec F S1024x2048 .bf16) : IVec S1024x2048 8 :=
  fptosi 8 (minimumf (broadcast S1024x2048 (Scalar.ofBits .f32 0x42FE0000#32 : F .f32))
    (maximumf (broadcast S1024x2048 (Scalar.ofBits .f32 0xC2FE0000#32 : F .f32))
      (roundeven (mulf (extf .f32 v bitsLt_bf16_f32) (broadcast S1024x2048 inv)))))

theorem cast_tail {α : Type} (g : S1024x2048.Idx → α) (h : S1x1024x2048.ShapeCasts S1024x2048) :
    shapeCast S1024x2048 (fun x : S1x1024x2048.Idx => g (tail (n := 1) x)) h = g := by
  funext j
  unfold shapeCast
  exact congrArg g ((congrArg (tail (n := 1) (R := 1024) (C := 2048)) (reshape_one (R := 1024) (C := 2048) h j)).trans (tail_cons _ _))

theorem tail_cast {α : Type} (g : S1024x2048.Idx → α) (h : S1024x2048.ShapeCasts S1x1024x2048) :
    shapeCast S1x1024x2048 g h = fun x : S1x1024x2048.Idx => g (tail (n := 1) x) := by
  funext x
  unfold shapeCast
  exact congrArg g (reshape_one_symm (R := 1024) (C := 2048) h x)

theorem pay4_tail (inv : F .f32) (g : S1024x2048.Idx → F .bf16) :
    k1_pay4 inv (fun x : S1x1024x2048.Idx => g (tail (n := 1) x)) = fun x : S1x1024x2048.Idx => qvec inv g (tail (n := 1) x) := by
  show shapeCast S1x1024x2048 (qvec inv (shapeCast S1024x2048 _ _)) _ = _
  rw [cast_tail, tail_cast]

theorem pay5_eq (inv : F .f32) (v : Vec F S1x1024x2048 .bf16) : k1_pay5 inv v = k1_pay4 inv v := rfl
theorem pay6_eq (inv : F .f32) (v : Vec F S1x1024x2048 .bf16) : k1_pay6 inv v = k1_pay4 inv v := rfl
theorem pay7_eq (inv : F .f32) (v : Vec F S1x1024x2048 .bf16) : k1_pay7 inv v = k1_pay4 inv v := rfl

section Targets

variable (Y : Dev nD → Vec F S1024x8192 .bf16) (A : Dev nD → Vec F S8x128 .f32) (c : Dev nD)

/-- The maxima received: plane `k` from the device `k + 1` places back. -/
def arT : Vec F S3x8x128 .f32 := stack (n := 3) (R := 8) (C := 128) fun k => A (src c k.val)
/-- The inverse scale, and the maximum spread over a block. -/
def invT : F .f32 := k1_pay3 (A c) (arT A c)
def gT : Vec F S8x128 .f32 := k1_pay2 (A c) (arT A c)
/-- The column blocks of the product, in the order they are worked through. -/
def yvT : Vec F S4x1024x2048 .bf16 := stack (n := 4) (R := 1024) (C := 2048) fun s => col (Y c) (pr c s.val)
/-- The codes of column block `b` of device `j`. -/
def code (j b : Dev nD) : IVec S1024x2048 8 := qvec (invT A j) (col (Y j) b)
/-- Codes sent, codes received, codes gathered. -/
def qsT : IVec S4x1024x2048 8 := stack (n := 4) (R := 1024) (C := 2048) fun s => code Y A c (pr c s.val)
def qrT : IVec S3x1024x2048 8 := stack (n := 3) (R := 1024) (C := 2048) fun k => code Y A (src c k.val) c
def qaT : IVec S4x1024x2048 8 := stack (n := 4) (R := 1024) (C := 2048) fun j => code Y A j c

end Targets

end Cert.KernelIdeal.Talk
-- ==== Proof.Sched.lean ====
/-
  The schedule of the exchange: which cells there are, who pays them, how much, with which buffers at which contents, and
  in which order of levels.

  * A device's barrier cell has three duties, one unit each. Duty `j` is paid by the device `j + 1` places on and hands
    over that device's plane `j` of the received maxima and of the received codes.
  * Family 0 are the send cells of the maxima, 1 the receive cells of the maxima, 2 the send cells of the codes, 3 the
    receive cells of the codes; each has three cells with one duty apiece, paid by one copy.
-/
module

public import proofs.«01_k».proof.Proof.Base

@[expose] public section

noncomputable section

namespace Cert.KernelIdeal.Talk

open Cert.KernelIdeal Cert.KernelIdeal.Gen Cert.KernelIdeal.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resources beside the machine's: the pipelines' rounds, this protocol's rounds, and the local copies' counters. -/
abbrev UU : Type := UR sig nD τ × (URounds (GSem nD τ sig) (Fin 3) × Counters)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := (Emb.inl).trans embR
abbrev EC : UEmb Counters (MT nD τ sig Unit (Elt F) ℕ UU ℕ) :=
  ((UEmb.inr : UEmb Counters (URounds (GSem nD τ sig) (Fin 3) × Counters)).trans (UEmb.inr : UEmb _ UU)).trans uEmb

instance ER_lands : (ER (F := F)).LandsIn (upEmb : UEmb _ 𝕄) := by unfold ER; infer_instance
instance EC_lands : (EC (F := F)).LandsIn (upEmb : UEmb _ 𝕄) := by unfold EC; infer_instance

/-! ## Cells -/

abbrev barS : Sem sig := (SemArray.scalar (sig.barrier 0 rfl) : Sems sig S_).sem
/-- Cell `k` of family `a`. -/
def cS (a : Fin 4) (k : Fin 3) : DmaSem sig := (⟨16 + 3 * a.val + k.val, by omega⟩ : Fin 33)

abbrev barCell (c : Dev nD) : GSem nD τ sig := ((c : Thread nD τ), .reg barS)
abbrev cell (c : Dev nD) (a : Fin 4) (k : Fin 3) : GSem nD τ sig := ((c : Thread nD τ), .dma (cS a k))

/-- Which cell a semaphore is: family and number, family 4 the barrier. -/
def kind : SemLoc sig → Option (Fin 5 × Fin 3)
  | .reg s => if s = barS then some (4, 0) else none
  | .dma n => if h : 16 ≤ (show Fin 33 from n).val ∧ (show Fin 33 from n).val < 28 then
      some (⟨((show Fin 33 from n).val - 16) / 3, by omega⟩, ⟨((show Fin 33 from n).val - 16) % 3, Nat.mod_lt _ (by decide)⟩) else none

theorem kind_bar : kind (.reg barS) = some (4, 0) := by decide
theorem kind_cell (a : Fin 4) (k : Fin 3) : kind (.dma (cS a k)) = some (a.castSucc, k) := by revert a k; decide

abbrev NA : ℕ := (arS 0).view.dmaCredit
abbrev NB : ℕ := (qrS 0).view.dmaCredit
theorem NA_pos : 0 < NA := View.dmaCredit_pos _ (by decide)
theorem NB_pos : 0 < NB := View.dmaCredit_pos _ (by decide)
/-- What a copy of family `a` credits. -/
def amt (a : Fin 5) : ℕ := if a.val < 2 then NA else if a.val < 4 then NB else 1

/-! ## Buffers at their contents -/

section Pts

variable (Y : Dev nD → Vec F S1024x8192 .bf16) (A : Dev nD → Vec F S8x128 .f32) (c : Dev nD)

/-- Memref `M` of device `c`, at share `q`, in a buffer with contents `f`. -/
abbrev at_ {sp : Space} {s : Shape} {e : EltTy} (M : Memref sig .tc sp s e) (q : PosShare TreeShare)
    (f : Buf (Elt F) (M.view.loc (c : Thread nD τ))) : sProp 𝕄 := M.view.loc (c : Thread nD τ) ↦[M.view.set]{q} f

abbrev arP (k : Fin 3) (f : Vec F S3x8x128 .f32) : sProp 𝕄 := at_ c (arS k) fullShare f
abbrev qrP (k : Fin 3) (f : IVec S3x1024x2048 8) : sProp 𝕄 := at_ (F := F) c (qrS k) fullShare f
abbrev qsP (k : Fin 4) (f : IVec S4x1024x2048 8) : sProp 𝕄 := at_ (F := F) c (qsS k) fullShare f
abbrev yvP (k : Fin 4) (f : Vec F S4x1024x2048 .bf16) : sProp 𝕄 := at_ c (yvS k) fullShare f
abbrev qaP (k : Fin 4) (f : IVec S4x1024x2048 8) : sProp 𝕄 := at_ (F := F) c (qaS k) fullShare f
abbrev yP (b : Dev nD) : sProp 𝕄 := at_ c (yC b) fullShare (Y c)

/-- The share of its maxima the device lends to copy `k`; a quarter stays behind. -/
def shr : Fin 3 → PosShare TreeShare
  | 0 => fullShare.left.left
  | 1 => fullShare.left.right
  | 2 => fullShare.right.left
abbrev shr3 : PosShare TreeShare := fullShare.right.right
abbrev aP (q : PosShare TreeShare) : sProp 𝕄 := at_ c aM q (A c)

/-! ## Payloads -/

def barPay (j : Fin 3) : sProp 𝕄 := iprop((∃ f, arP (pr c j.val) j f) ∗ (∃ f, qrP (pr c j.val) j f)
  ∗ reached ER (cell (pr c j.val) 1 j) 0 ∗ reached ER (cell (pr c j.val) 3 j) 0)

/-- What the payment of duty `d` of cell `k` of family `a` hands over. -/
def pay (d : Fin 3) : Fin 5 × Fin 3 → sProp 𝕄
  | (0, k) => aP A c (shr k)
  | (1, k) => arP c k (arT A c)
  | (2, k) => qsP c k.castSucc (qsT Y A c)
  | (3, k) => qrP c k (qrT Y A c)
  | (4, _) => barPay c d

instance barPay_storable (j : Fin 3) : BI.Storable (upEmb : UEmb _ 𝕄) (barPay (F := F) c j) := by unfold barPay; infer_instance

instance pay_storable (d : Fin 3) (p : Fin 5 × Fin 3) : BI.Storable (upEmb : UEmb _ 𝕄) (pay Y A c d p) := by
  obtain ⟨a, k⟩ := p
  fin_cases a <;> (unfold pay; infer_instance)

end Pts

variable (Y : Dev nD → Vec F S1024x8192 .bf16) (A : Dev nD → Vec F S8x128 .f32)

/-! ## The schedule -/

def dutySet (a : Fin 5) : Finset (Fin 3) := if a = 4 then Finset.univ else {0}

def rd : Rounds.Schedule (GSem nD τ sig) (Fin 3) 𝕄 where
  duties g r := if r = 0 ∧ g.1.2 = .tc then (match kind g.2 with | some p => dutySet p.1 | none => ∅) else ∅
  unitless _ := False
  amount g _ _ := match kind g.2 with | some p => amt p.1 | none => 1
  payload g _ d := match kind g.2 with | some p => pay Y A g.1.1 d p | none => iprop(emp)
  amount_pos g _ _ _ := by
    cases kind g.2 with
    | none => exact Nat.one_pos
    | some p =>
      show 0 < amt p.1
      unfold amt
      split
      · exact NA_pos
      · split
        · exact NB_pos
        · exact Nat.one_pos

instance rd_payload_storable (g : GSem nD τ sig) (r : ℕ) (d : Fin 3) :
    BI.Storable (upEmb : UEmb _ 𝕄) ((rd Y A).payload g r d) := by
  show BI.Storable upEmb (match kind g.2 with | some p => pay Y A g.1.1 d p | none => iprop(emp))
  split <;> infer_instance

section Sched

variable (c : Dev nD)

theorem duties_bar : (rd Y A).duties (barCell c) 0 = Finset.univ := by
  dsimp only [rd]; rw [if_pos ⟨rfl, rfl⟩, kind_bar]; rfl
theorem duties_cell (a : Fin 4) (k : Fin 3) : (rd Y A).duties (cell c a k) 0 = {0} := by
  dsimp only [rd]; rw [if_pos ⟨rfl, rfl⟩, kind_cell]; exact (by decide : ∀ (a : Fin 4), dutySet a.castSucc = {0}) a
theorem duties_later (g : GSem nD τ sig) : ∀ r, 1 ≤ r → (rd Y A).duties g r = ∅ :=
  fun r hr => by dsimp only [rd]; rw [if_neg (fun h => by omega)]
theorem amount_bar (d : Fin 3) : (rd Y A).amount (barCell c) 0 d = 1 := by dsimp only [rd]; rw [kind_bar]; rfl
theorem amount_cell (a : Fin 4) (k d : Fin 3) : (rd Y A).amount (cell c a k) 0 d = amt a.castSucc := by
  dsimp only [rd]; rw [kind_cell]
theorem expect_bar : (rd Y A).expect (barCell c) 0 = 3 := by
  unfold Schedule.expect Schedule.amountOf
  rw [duties_bar, Finset.sum_congr rfl (fun d _ => amount_bar Y A c d)]; rfl
theorem expect_cell (a : Fin 4) (k : Fin 3) : (rd Y A).expect (cell c a k) 0 = amt a.castSucc := by
  unfold Schedule.expect Schedule.amountOf
  rw [duties_cell, Finset.sum_singleton, amount_cell]
theorem payload_bar (d : Fin 3) : (rd Y A).payload (barCell c) 0 d = barPay c d := by dsimp only [rd]; rw [kind_bar]; rfl
theorem payload_cell (a : Fin 4) (k d : Fin 3) : (rd Y A).payload (cell c a k) 0 d = pay Y A c d (a.castSucc, k) := by
  dsimp only [rd]; rw [kind_cell]

theorem rest_cell (a : Fin 4) (k : Fin 3) :
    bigSep ((rd Y A).duties (cell c a k) 0 \ ∅) (fun d => (rd Y A).payload (cell c a k) 0 d) = pay Y A c 0 (a.castSucc, k) := by
  rw [Finset.sdiff_empty, duties_cell, bigSep_singleton, payload_cell]

theorem rest_bar : bigSep ((rd Y A).duties (barCell c) 0 \ ∅) (fun d => (rd Y A).payload (barCell c) 0 d)
    = bigSep Finset.univ (fun d : Fin 3 => barPay (F := F) c d) := by
  rw [Finset.sdiff_empty, duties_bar]
  exact bigSep_congr fun d _ => payload_bar Y A c d

end Sched

/-! ## What each core owes, in the order it pays; the levels -/

abbrev owB (c : Dev nD) (k : Fin 3) : CellTallies nD τ sig Unit := tallyAt (cell (pr c k.val) 3 k) () NB
abbrev owA (c : Dev nD) (k : Fin 3) : CellTallies nD τ sig Unit := tallyAt (cell (pr c k.val) 1 k) () NA
abbrev owS (c : Dev nD) (k : Fin 3) : CellTallies nD τ sig Unit := tallyAt (barCell (pr c k.val)) () 1

abbrev OB1 (c : Dev nD) : CellTallies nD τ sig Unit := 0 + owB c 1
abbrev OB2 (c : Dev nD) : CellTallies nD τ sig Unit := OB1 c + owB c 2
abbrev OB3 (c : Dev nD) : CellTallies nD τ sig Unit := OB2 c + owB c 0
abbrev OA1 (c : Dev nD) : CellTallies nD τ sig Unit := OB3 c + owA c 2
abbrev OA2 (c : Dev nD) : CellTallies nD τ sig Unit := OA1 c + owA c 1
abbrev OA3 (c : Dev nD) : CellTallies nD τ sig Unit := OA2 c + owA c 0
abbrev OS1 (c : Dev nD) : CellTallies nD τ sig Unit := OA3 c + owS c 2
abbrev OS2 (c : Dev nD) : CellTallies nD τ sig Unit := OS1 c + owS c 1
/-- At launch: the three barrier units, the three copies of the maxima, the three copies of the codes. -/
def O₀ (c : Dev nD) : CellTallies nD τ sig Unit := OS2 c + owS c 0

def L (g : GSem nD τ sig) : Finset Unit := if g.1.2 = .tc then {()} else ∅
/-- The barrier cells at 1, the receive cells of the maxima at 2, those of the codes at 3, the rest at 0. -/
def lvK : Option (Fin 5 × Fin 3) → ℕ
  | some (4, _) => 1
  | some (1, _) => 2
  | some (3, _) => 3
  | _ => 0
def lv (g : GSem nD τ sig) (_ : Unit) : ℕ := lvK (kind g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [kind_bar]; rfl
theorem lv_cell (c : Dev nD) (a : Fin 4) (k : Fin 3) : lv (cell c a k) () = lvK (some (a.castSucc, k)) := by unfold lv; rw [kind_cell]

/-- Everything owed is owed to a core's cell above level `n`. -/
def Above (n : ℕ) (O : CellTallies nD τ sig Unit) : Prop := ∀ g u, 0 < O g u → g.1.2 = .tc ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := by
  intro g u hg
  rcases Nat.eq_zero_or_pos (O g u) with h0 | h0
  · refine h' g u ?_
    have : (O + O') g u = O g u + O' g u := rfl
    omega
  · exact h g u h0
theorem Above.tally {n : ℕ} {g : GSem nD τ sig} (k : ℕ) (h : g.1.2 = .tc) (hn : n < lv g ()) : Above n (tallyAt g () k) := by
  intro g' u hg
  rw [tallyAt_apply] at hg
  by_cases e : g' = g ∧ u = ()
  · rw [e.1, e.2]; exact ⟨h, hn⟩
  · rw [if_neg e] at hg; exact absurd hg (Nat.lt_irrefl 0)

/-- A core may wait on a cell whose level everything it owes lies above. -/
theorem mayWait (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hn)
    (fun g u hg => (hO g u hg).2)

theorem owB_above (c : Dev nD) (k : Fin 3) : Above 2 (owB c k) := Above.tally _ rfl (by rw [lv_cell]; revert k; decide)
theorem owA_above (c : Dev nD) (k : Fin 3) : Above 1 (owA c k) := Above.tally _ rfl (by rw [lv_cell]; revert k; decide)
theorem Above.mono {n n' : ℕ} (h : n' ≤ n) {O : CellTallies nD τ sig Unit} (hO : Above n O) : Above n' O :=
  fun g u hg => ⟨(hO g u hg).1, lt_of_le_of_lt h (hO g u hg).2⟩
theorem OB1_above (c : Dev nD) : Above 2 (OB1 c) := (Above.zero 2).add (owB_above c 1)
theorem OB2_above (c : Dev nD) : Above 2 (OB2 c) := (OB1_above c).add (owB_above c 2)
theorem OB3_above (c : Dev nD) : Above 2 (OB3 c) := (OB2_above c).add (owB_above c 0)
theorem OA3_above (c : Dev nD) : Above 1 (OA3 c) :=
  ((((OB3_above c).mono (by decide)).add (owA_above c 2)).add (owA_above c 1)).add (owA_above c 0)

/-! ## The protocol's ghost state -/

/-- The cells: every device's barrier cell, and its twelve others. -/
def barCells : Finset (GSem nD τ sig) := Finset.univ.image fun c : Dev nD => barCell c
def dmaCells : Finset (GSem nD τ sig) := Finset.univ.image fun p : Dev nD × Fin 4 × Fin 3 => cell p.1 p.2.1 p.2.2
theorem mem_bar (c : Dev nD) : barCell c ∈ barCells ∪ dmaCells := Finset.mem_union_left _ (Finset.mem_image_of_mem _ (Finset.mem_univ c))
theorem mem_cell (c : Dev nD) (a : Fin 4) (k : Fin 3) : cell c a k ∈ barCells ∪ dmaCells :=
  Finset.mem_union_right _ (Finset.mem_image.mpr ⟨(c, a, k), Finset.mem_univ _, rfl⟩)

/-- The invariants of all the cells, under the names `K`. -/
def invs (K : GSem nD τ sig → ℕ) : sProp 𝕄 := bigSep (barCells ∪ dmaCells) fun g => cellInv ER (rd Y A) (K g) g
instance invs_persistent (K : GSem nD τ sig → ℕ) : BI.Persistent (invs Y A K) := by unfold invs; infer_instance

theorem inv_bar (K : GSem nD τ sig → ℕ) (c : Dev nD) : invs Y A K ⊢ cellInv ER (rd Y A) (K (barCell c)) (barCell c) := by
  unfold invs; exact BI.bigSep_elim (mem_bar c)
theorem inv_cell (K : GSem nD τ sig → ℕ) (c : Dev nD) (a : Fin 4) (k : Fin 3) :
    invs Y A K ⊢ cellInv ER (rd Y A) (K (cell c a k)) (cell c a k) := by
  unfold invs; exact BI.bigSep_elim (mem_cell c a k)

end Cert.KernelIdeal.Talk
-- ==== Proof.Steps.lean ====
/-
  The exchange's operations, one lemma each, at a symbolic device and cell: signal, wait, the two copies to a peer, the two
  copies at home, and the coding of one plane.
-/
module

public import proofs.«01_k».proof.Proof.Sched

@[expose] public section

noncomputable section

namespace Cert.KernelIdeal.Talk

open Cert.KernelIdeal Cert.KernelIdeal.Gen Cert.KernelIdeal.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Y : Dev nD → Vec F S1024x8192 .bf16) (A : Dev nD → Vec F S8x128 .f32)

abbrev 𝒱₀ : Variants := Variants.none

/-! ## What the planes read -/

theorem plane_read {sp : Space} {e : EltTy} {n R C : ℕ} (M : Memref sig .tc sp (Sh3 n R C) e) (h : (Sh3 1 R C).Squeezes (Sh2 R C)) (k : Fin n)
    {Val : EltTy → Type} (f : M.view.ty.Contents Val) (g : Fin n → (Sh2 R C).Idx → Val e) (hf : M.view.read Val f = stack g) :
    (plane M h k).view.read Val f = g k := slotV_read M.view k _ f hf

theorem arS_read (c : Dev nD) (k : Fin 3) : (arS k).view.read (Elt F) (arT A c) = A (src c k.val) :=
  plane_read (n := 3) (R := 8) (C := 128) arM _ k (arT A c) _ (View.read_whole _ _)
theorem yvS_read (c : Dev nD) (k : Fin 4) : (yvS k).view.read (Elt F) (yvT Y c) = col (Y c) (pr c k.val) :=
  plane_read (n := 4) (R := 1024) (C := 2048) yvM _ k (yvT Y c) _ (View.read_whole _ _)
theorem qsS_read (c : Dev nD) (k : Fin 4) : (qsS k).view.read (Elt F) (qsT Y A c) = code Y A c (pr c k.val) :=
  plane_read (n := 4) (R := 1024) (C := 2048) (Val := Elt F) qsM _ k (qsT Y A c) (fun s => code Y A c (pr c s.val)) (View.read_whole _ _)
theorem qrS_read (c : Dev nD) (k : Fin 3) : (qrS k).view.read (Elt F) (qrT Y A c) = code Y A (src c k.val) c :=
  plane_read (n := 3) (R := 1024) (C := 2048) (Val := Elt F) qrM _ k (qrT Y A c) (fun k => code Y A (src c k.val) c) (View.read_whole _ _)
theorem qaS_read (c j : Dev nD) : (qaS j).view.read (Elt F) (qaT Y A c) = code Y A j c :=
  plane_read (n := 4) (R := 1024) (C := 2048) (Val := Elt F) qaM _ j (qaT Y A c) (fun j => code Y A j c) (View.read_whole _ _)

/-- A memref holding what it is to hold. -/
theorem landed (c : Dev nD) {sp : Space} {s : Shape} {e : EltTy} (M : Memref sig .tc sp s e) (q : PosShare TreeShare)
    (f t : Buf (Elt F) (M.view.loc (c : Thread nD τ))) (w : s.Idx → Elt F e) (h : M.view.read (Elt F) t = w) :
    (at_ c M q (M.view.write (Elt F) f w Finset.univ) : sProp 𝕄) = at_ c M q t :=
  pointsTo_congr (write_eq_of_read M.view f t w h)

/-! ## The operations -/

/-- What the core owes, whatever it has waited on. -/
def ow (c : Dev nD) (O : CellTallies nD τ sig Unit) : sProp 𝕄 := iprop(∃ W, owes (c : Thread nD τ) O W)

variable (K : GSem nD τ sig → ℕ) (c : Dev nD)

theorem step_signal (k : Fin 3) (O O' : CellTallies nD τ sig Unit) (hO : O' = O + owS c k) {dst : Thread nD τ} {sm : Sem sig} {n : ℤ}
    {P : PUnit → Prog (TpuEff nD τ sig (Elt F) Λ₀ .tc) PUnit} {Q : PUnit → sProp 𝕄}
    (hd : dst = (pr c k.val : Thread nD τ)) (hs : sm = barS) (hn : n = ((1 : ℕ) : ℤ)) :
    iprop(invs Y A K ∗ ow c O' ∗ dutyTok ER (barCell (pr c k.val)) 0 k.rev ∗ reached ER (barCell (pr c k.val)) 0
        ∗ (∃ f, arP c k.rev f) ∗ (∃ f, qrP c k.rev f) ∗ reached ER (cell c 1 k.rev) 0 ∗ reached ER (cell c 3 k.rev) 0)
      ⊢ iprop((ow c O -∗ wp frame (wpE (defs₀ (F := F)) 𝒱₀ (c : Thread nD τ) none) Set.univ (P ⟨⟩) Q)
          -∗ wp frame (wpE (defs₀ (F := F)) 𝒱₀ (c : Thread nD τ) none) Set.univ (.op (.semSignal dst sm n) P) Q) := by
  subst hd; subst hs; subst hn
  unfold ow
  iintro ⟨#HI, ⟨%W, HO⟩, Ht, #Hr, Ha, Hq, #Ha1, #Hq1⟩ Hk
  iapply (Rounds.wp_signal 𝒱₀ ER (rd Y A) (c : Thread nD τ) none (dst := (pr c k.val : Thread nD τ)) (sem := barS) (r := 0) (d := k.rev)
      (κ := K (barCell (pr c k.val))) (by rw [duties_bar]; exact Finset.mem_univ _) (amount_bar Y A (pr c k.val) _) () O hO) $$ [HO Ht Ha Hq]
  · isplitr; · iapply (inv_bar Y A K (pr c k.val)); iexact HI
    isplitl [HO]; · iexact HO
    isplitl [Ht]; · iexact Ht
    isplitl [Ha Hq]
    · rw [payload_bar]; unfold barPay; rw [pr_rev]
      isplitl [Ha]; · iexact Ha
      isplitl [Hq]; · iexact Hq
      isplitr; · iexact Ha1
      iexact Hq1
    · iexact Hr
  iintro HO
  iapply Hk
  iexists W; iexact HO

theorem step_barWait (m : ℕ) (hm : 1 ≤ m) (O : CellTallies nD τ sig Unit) (hO : Above m O) {sm : Sem sig} {n : ℤ}
    {P : PUnit → Prog (TpuEff nD τ sig (Elt F) Λ₀ .tc) PUnit} {Q : PUnit → sProp 𝕄} (hs : sm = barS) (hn : n = ((3 : ℕ) : ℤ)) :
    iprop(invs Y A K ∗ levAts L lv ∗ cred (tallyAt (barCell c) () 3) ∗ ow c O ∗ atPos ER (barCell c) 0 ∅ 0)
      ⊢ iprop((iprop(ow c O ∗ atPos ER (barCell c) 1 ∅ 0 ∗ bigSep Finset.univ (fun d : Fin 3 => barPay (F := F) c d))
              -∗ wp frame (wpE (defs₀ (F := F)) 𝒱₀ (c : Thread nD τ) none) Set.univ (P ⟨⟩) Q)
          -∗ wp frame (wpE (defs₀ (F := F)) 𝒱₀ (c : Thread nD τ) none) Set.univ (.op (.semWait sm n) P) Q) := by
  subst hs; subst hn
  unfold ow
  iintro ⟨#HI, #Hlev, Hc, ⟨%W, HO⟩, Hat⟩ Hk
  iapply (Rounds.wp_wait_rest_token 𝒱₀ ER (rd Y A) (c : Thread nD τ) none (κ := K (barCell c))
      (wpE_semWait_eq 𝒱₀ (c : Thread nD τ) none Set.univ) (Set.mem_univ _) () (O := O) (W := W) (R := 0) (m := 0) (T := ∅)
      ((Nat.zero_add 3).trans (expect_bar Y A c).symm)) $$ [Hc HO Hat]
  · isplitr; · iapply (inv_bar Y A K c); iexact HI
    isplitl [Hc]; · iexact Hc
    isplitl [HO]; · iexact HO
    isplitr; · iapply (mayWait c (.reg barS) m ((lv_bar c).le.trans hm) hO); iexact Hlev
    iexact Hat
  iintro ⟨HO, Hat, -, Hpay⟩
  iapply Hk
  isplitl [HO]; · iexists _; iexact HO
  isplitl [Hat]; · iexact Hat
  iapply (Entails.of_eq (rest_bar Y A c)) $$ Hpay

theorem step_wait (a : Fin 4) (k : Fin 3) (m : ℕ) (hm : lvK (some (a.castSucc, k)) ≤ m) (O : CellTallies nD τ sig Unit) (hO : Above m O)
    {sm : DmaSem sig} {sp sp' : Space} {s s' : Shape} {e e' : EltTy} {srcw : Memref sig .tc sp' s' e'} {dstw : Memref sig .tc sp s e}
    {h : srcw.view.WordExact} {h' : dstw.view.WordExact} {P : PUnit → Prog (TpuEff nD τ sig (Elt F) Λ₀ .tc) PUnit} {Q : PUnit → sProp 𝕄}
    (hs : sm = cS a k) (hN : dstw.view.dmaCredit = amt a.castSucc)
    {R : sProp 𝕄} (hR : pay Y A c 0 (a.castSucc, k) = R) :
    iprop(invs Y A K ∗ levAts L lv ∗ cred (tallyAt (cell c a k) () (amt a.castSucc)) ∗ ow c O ∗ atPos ER (cell c a k) 0 ∅ 0)
      ⊢ iprop((iprop(ow c O ∗ atPos ER (cell c a k) 1 ∅ 0 ∗ R)
              -∗ wp frame (wpE (defs₀ (F := F)) 𝒱₀ (c : Thread nD τ) none) Set.univ (P ⟨⟩) Q)
          -∗ wp frame (wpE (defs₀ (F := F)) 𝒱₀ (c : Thread nD τ) none) Set.univ (.op (.waitDma2 sm srcw dstw h h') P) Q) := by
  subst hs
  unfold ow
  rw [← hN]
  iintro ⟨#HI, #Hlev, Hc, ⟨%W, HO⟩, Hat⟩ Hk
  iapply (Rounds.wp_wait_rest_token 𝒱₀ ER (rd Y A) (c : Thread nD τ) none (κ := K (cell c a k))
      (wpE_waitDma2_eq 𝒱₀ (c : Thread nD τ) none Set.univ) (Set.mem_univ _) () (O := O) (W := W) (R := 0) (m := 0) (T := ∅)
      ((Nat.zero_add _).trans (hN.trans (expect_cell Y A c a k).symm))) $$ [Hc HO Hat]
  · isplitr; · iapply (inv_cell Y A K c a k); iexact HI
    isplitl [Hc]; · iexact Hc
    isplitl [HO]; · iexact HO
    isplitr; · iapply (mayWait c (.dma (cS a k)) m ((lv_cell c a k).le.trans hm) hO); iexact Hlev
    iexact Hat
  iintro ⟨HO, Hat, -, Hpay⟩
  iapply Hk
  isplitl [HO]; · iexists _; iexact HO
  isplitl [Hat]; · iexact Hat
  iapply (Entails.of_eq ((rest_cell Y A c a k).trans hR)) $$ Hpay

theorem pay0 (k : Fin 3) : pay Y A c 0 ((0 : Fin 4).castSucc, k) = aP A c (shr k) := rfl
theorem pay1 (k : Fin 3) : pay Y A c 0 ((1 : Fin 4).castSucc, k) = arP c k (arT A c) := rfl
theorem pay2 (k : Fin 3) : pay Y A c 0 ((2 : Fin 4).castSucc, k) = qsP c k.castSucc (qsT Y A c) := rfl
theorem pay3 (k : Fin 3) : pay Y A c 0 ((3 : Fin 4).castSucc, k) = qrP c k (qrT Y A c) := rfl

/-- The maxima to the peer `k + 1` places on. -/
theorem step_sendA (k : Fin 3) (O O' : CellTallies nD τ sig Unit) (hO : O' = O + owA c k) {dst : Dev nD} {M : Memref sig .tc .vmem S8x128 .f32}
    {s1 s2 : DmaSem sig} {hsc : M.view.ref.isScScratch = false} {h : aM.view.WordExact} {h' : M.view.WordExact}
    {h'' : DmaTarget.Typed .vmem (.dma s2) (.remote (dst : Thread nD τ) M (.dma s1) hsc)}
    {P : PUnit → Prog (TpuEff nD τ sig (Elt F) Λ₀ .tc) PUnit} {Q : PUnit → sProp 𝕄}
    (hd : dst = pr c k.val) (hM : M = arS k) (hs1 : s1 = cS 0 k) (hs2 : s2 = cS 1 k) :
    iprop(invs Y A K ∗ ow c O' ∗ aP A c (shr k) ∗ (∃ f, arP (pr c k.val) k f)
        ∗ dutyTok ER (cell c 0 k) 0 0 ∗ reached ER (cell c 0 k) 0 ∗ dutyTok ER (cell (pr c k.val) 1 k) 0 0 ∗ reached ER (cell (pr c k.val) 1 k) 0)
      ⊢ iprop((iprop(cred (tallyAt (cell c 0 k) () (amt 0)) ∗ ow c O)
              -∗ wp frame (wpE (defs₀ (F := F)) 𝒱₀ (c : Thread nD τ) none) Set.univ (P ⟨⟩) Q)
          -∗ wp frame (wpE (defs₀ (F := F)) 𝒱₀ (c : Thread nD τ) none) Set.univ
              (.op (.enqueueDma aM (.remote (dst : Thread nD τ) M (.dma s1) hsc) (.dma s2) h h' h'') P) Q) := by
  subst hd; subst hM; subst hs1; subst hs2
  unfold ow
  iintro ⟨#HI, ⟨%W, HO⟩, Ha, ⟨%fd, Hd⟩, Ht, #Hr, Ht', #Hr'⟩ Hk
  iapply (Rounds.wp_send_pointsTo 𝒱₀ ER (rd Y A) (c : Thread nD τ) none (c' := (pr c k.val : Thread nD τ)) (src := aM) (dst := arS k)
      (sS := .dma (cS 0 k)) (sem := .dma (cS 1 k)) (q := shr k) (fs := A c) (κ₁ := K (cell c 0 k)) (κ₂ := K (cell (pr c k.val) 1 k))
      (r₁ := 0) (r₂ := 0) (d₁ := 0) (d₂ := 0) (fd := fd)
      (by rw [duties_cell]; exact Finset.mem_singleton_self _) (by rw [duties_cell]; exact Finset.mem_singleton_self _)
      () () NA rfl (amount_cell Y A c 0 k 0) (amount_cell Y A (pr c k.val) 1 k 0) O hO (W := W)
      (by rw [payload_cell]; exact BI.Entails.refl _)
      (by rw [payload_cell]
          exact Entails.of_eq (landed (pr c k.val) (arS k) fullShare fd (arT A (pr c k.val)) _
            ((arS_read A (pr c k.val) k).trans (by rw [src_pr]; rfl))))) $$ [HO Ha Hd Ht Ht']
  · isplitr; · iapply (inv_cell Y A K c 0 k); iexact HI
    isplitr; · iapply (inv_cell Y A K (pr c k.val) 1 k); iexact HI
    isplitl [Ha]; · iexact Ha
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- The codes of the peer's column block to the peer `k + 1` places on. -/
theorem step_sendB (k : Fin 3) (O O' : CellTallies nD τ sig Unit) (hO : O' = O + owB c k) {dst : Dev nD} {S M : Memref sig .tc .vmem S1024x2048 .i8}
    {s1 s2 : DmaSem sig} {hsc : M.view.ref.isScScratch = false} {h : S.view.WordExact} {h' : M.view.WordExact}
    {h'' : DmaTarget.Typed .vmem (.dma s2) (.remote (dst : Thread nD τ) M (.dma s1) hsc)}
    {P : PUnit → Prog (TpuEff nD τ sig (Elt F) Λ₀ .tc) PUnit} {Q : PUnit → sProp 𝕄}
    (hd : dst = pr c k.val) (hS : S = qsS k.castSucc) (hM : M = qrS k) (hs1 : s1 = cS 2 k) (hs2 : s2 = cS 3 k) :
    iprop(invs Y A K ∗ ow c O' ∗ qsP c k.castSucc (qsT Y A c) ∗ (∃ f, qrP (pr c k.val) k f)
        ∗ dutyTok ER (cell c 2 k) 0 0 ∗ reached ER (cell c 2 k) 0 ∗ dutyTok ER (cell (pr c k.val) 3 k) 0 0 ∗ reached ER (cell (pr c k.val) 3 k) 0)
      ⊢ iprop((iprop(cred (tallyAt (cell c 2 k) () (amt 2)) ∗ ow c O)
              -∗ wp frame (wpE (defs₀ (F := F)) 𝒱₀ (c : Thread nD τ) none) Set.univ (P ⟨⟩) Q)
          -∗ wp frame (wpE (defs₀ (F := F)) 𝒱₀ (c : Thread nD τ) none) Set.univ
              (.op (.enqueueDma S (.remote (dst : Thread nD τ) M (.dma s1) hsc) (.dma s2) h h' h'') P) Q) := by
  subst hd; subst hS; subst hM; subst hs1; subst hs2
  unfold ow
  iintro ⟨#HI, ⟨%W, HO⟩, Ha, ⟨%fd, Hd⟩, Ht, #Hr, Ht', #Hr'⟩ Hk
  iapply (Rounds.wp_send_pointsTo 𝒱₀ ER (rd Y A) (c : Thread nD τ) none (c' := (pr c k.val : Thread nD τ)) (src := qsS k.castSucc) (dst := qrS k)
      (sS := .dma (cS 2 k)) (sem := .dma (cS 3 k)) (q := fullShare) (fs := qsT Y A c) (κ₁ := K (cell c 2 k)) (κ₂ := K (cell (pr c k.val) 3 k))
      (r₁ := 0) (r₂ := 0) (d₁ := 0) (d₂ := 0) (fd := fd)
      (by rw [duties_cell]; exact Finset.mem_singleton_self _) (by rw [duties_cell]; exact Finset.mem_singleton_self _)
      () () NB rfl (amount_cell Y A c 2 k 0) (amount_cell Y A (pr c k.val) 3 k 0) O hO (W := W)
      (by rw [payload_cell]; exact BI.Entails.refl _)
      (by rw [payload_cell]
          exact Entails.of_eq (landed (pr c k.val) (qrS k) fullShare fd (qrT Y A (pr c k.val)) _
            ((qrS_read Y A (pr c k.val) k).trans (by rw [src_pr]; exact (qsS_read Y A c k.castSucc).symm))))) $$ [HO Ha Hd Ht Ht']
  · isplitr; · iapply (inv_cell Y A K c 2 k); iexact HI
    isplitr; · iapply (inv_cell Y A K (pr c k.val) 3 k); iexact HI
    isplitl [Ha]; · iexact Ha
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

/-- A copy at home, on a cell of the core's own that stands at zero: in flight, with the destination at what it is to hold. -/
theorem step_local {sp sp' : Space} {s : Shape} {e : EltTy} {S S' : Memref sig .tc sp s e} {D D' : Memref sig .tc sp' s e} {sm sm' : DmaSem sig}
    {h : S'.view.WordExact} {h' : D'.view.WordExact} {h'' : DmaTarget.Typed (nD := nD) (p := .tc) sp (.dma sm') (.here D')}
    {P : PUnit → Prog (TpuEff nD τ sig (Elt F) Λ₀ .tc) PUnit} {Q : PUnit → sProp 𝕄} (hS : S' = S) (hD : D' = D) (hs : sm' = sm)
    (fs : Buf (Elt F) (S.view.loc (c : Thread nD τ))) (t : Buf (Elt F) (D.view.loc (c : Thread nD τ))) (q : PosShare TreeShare)
    (hr : D.view.read (Elt F) t = S.view.read (Elt F) fs) (N : ℕ) (hN : D.view.dmaCredit = N) (hN0 : 0 < N) :
    iprop(at_ c S q fs ∗ (∃ f, at_ c D fullShare f) ∗ semVal ((c : Thread nD τ), .dma sm) 0)
      ⊢ iprop((Transfers.Flight (EC (F := F)) (c : Thread nD τ) (.dma sm) () N iprop(at_ c D fullShare t ∗ at_ c S q fs)
              -∗ wp frame (wpE (defs₀ (F := F)) 𝒱₀ (c : Thread nD τ) none) Set.univ (P ⟨⟩) Q)
          -∗ wp frame (wpE (defs₀ (F := F)) 𝒱₀ (c : Thread nD τ) none) Set.univ
              (.op (.enqueueDma (p := .tc) S' (.here D') (.dma sm') h h' h'') P) Q) := by
  subst hS; subst hD; subst hs
  iintro ⟨Hs, ⟨%f, Hd⟩, Hv⟩ Hk
  iapply (Transfers.wp_dmaLocal EC 𝒱₀ (c : Thread nD τ) none (src := S') (dst := D') (via := .same) (sm := .dma sm') (q := q) (fs := fs) (fd := f) () N hN hN0
    (Finset.Subset.refl _)) $$ [Hs Hd Hv]
  · isplitl [Hs]; · iexact Hs
    isplitl [Hd]; · iexact Hd
    iexact Hv
  rw [show (D'.view.loc (c : Thread nD τ) ↦[D'.view.set]{fullShare} D'.view.write (Elt F) f (ReadAs.same.apply (S'.view.read (Elt F) fs)) Finset.univ : sProp 𝕄)
    = at_ c D' fullShare t from landed c D' fullShare f t _ hr]
  iintro HF
  iapply Hk
  iexact HF

theorem step_localWait (m : ℕ) (O : CellTallies nD τ sig Unit) (hO : Above m O) {sp sp' : Space} {s s' : Shape} {e e' : EltTy}
    {srcw : Memref sig .tc sp' s' e'} {dstw : Memref sig .tc sp s e} {sm sm' : DmaSem sig}
    {h : srcw.view.WordExact} {h' : dstw.view.WordExact} {P : PUnit → Prog (TpuEff nD τ sig (Elt F) Λ₀ .tc) PUnit} {Q : PUnit → sProp 𝕄} {D : sProp 𝕄}
    (hs : sm' = sm) (N : ℕ) (hN : dstw.view.dmaCredit = N) (hk : kind (.dma sm) = none) :
    iprop(levAts L lv ∗ Transfers.Flight (EC (F := F)) (c : Thread nD τ) (.dma sm) () N D ∗ ow c O)
      ⊢ iprop((iprop(D ∗ semVal ((c : Thread nD τ), .dma sm) 0 ∗ ow c O)
              -∗ wp frame (wpE (defs₀ (F := F)) 𝒱₀ (c : Thread nD τ) none) Set.univ (P ⟨⟩) Q)
          -∗ wp frame (wpE (defs₀ (F := F)) 𝒱₀ (c : Thread nD τ) none) Set.univ (.op (.waitDma2 sm' srcw dstw h h') P) Q) := by
  subst hs
  unfold ow
  iintro ⟨#Hlev, HF, ⟨%W, HO⟩⟩ Hk
  iapply (Transfers.wp_waitLocalO EC 𝒱₀ (c : Thread nD τ) none () hN (O := O) (W := W)) $$ [HF HO]
  · isplitl [HF]; · iexact HF
    isplitl [HO]; · iexact HO
    iapply (mayWait c (.dma sm') m (by unfold lv; rw [hk]; exact Nat.zero_le _) hO); iexact Hlev
  iintro ⟨HD, Hv, HO⟩
  iapply Hk
  isplitl [HD]; · iexact HD
  isplitl [Hv]; · iexact Hv
  iexists _; iexact HO

/-- Plane `k` of a stack of four. -/
abbrev plR (k : Fin 4) : Rect S4x1024x2048 := slotR (n := 4) (R := 1024) (C := 2048) k

theorem yv_slot (k : Fin 4) : (yvM.access (plR k)).read (Elt F) (yvT Y c) = fun x => col (Y c) (pr c k.val) (tail (n := 1) x) :=
  slotR_read (R := 1024) (C := 2048) yvM.view k (yvT Y c) (g := fun s => col (Y c) (pr c s.val)) (View.read_whole _ _)
theorem qs_slot (k : Fin 4) : (qsM.access (plR k)).read (Elt F) (qsT Y A c) = fun x => code Y A c (pr c k.val) (tail (n := 1) x) :=
  slotR_read (R := 1024) (C := 2048) qsM.view k (Val := Elt F) (qsT Y A c) (g := fun s => code Y A c (pr c s.val)) (View.read_whole _ _)

theorem quant_eq (k : Fin 4) (f : Vec F S4x1024x2048 .i8) : ∀ i ∈ (qsM.access (plR k)).set,
    (qsM.access (plR k)).write (Elt F) f (k1_pay4 (invT A c) ((yvM.access (plR k)).read (Elt F) (yvT Y c))) Finset.univ i = qsT Y A c i := by
  refine write_eq_of_read (qsM.access (plR k)) f (qsT Y A c) _ ?_
  rw [qs_slot, yv_slot]
  exact (pay4_tail (invT A c) (col (Y c) (pr c k.val))).symm

/-- One plane coded: read from the products, what the codes' plane held read and dropped, the codes written. -/
theorem step_quant (k : Fin 4) {h : yvM.view.LoadsAt (plR k).toLoadRect}
    {h' : qsM.view.LoadsAt (plR k).toLoadRect}
    {h2 : (qsM.access (plR k)).Stores Finset.univ}
    {h3 : (Finset.univ : Finset (plR k).shape.Idx) = Finset.univ ∨ ∀ a, (plR k).stride a = 1}
    {P : PUnit → Prog (TpuEff nD τ sig (Elt F) Λ₀ .tc) PUnit} {Q : PUnit → sProp 𝕄} :
    iprop(yvP c k (yvT Y c) ∗ (∃ f, qsP c k f))
      ⊢ iprop((iprop(yvP c k (yvT Y c) ∗ qsP c k (qsT Y A c))
              -∗ wp frame (wpE (defs₀ (F := F)) 𝒱₀ (c : Thread nD τ) none) Set.univ (P ⟨⟩) Q)
          -∗ wp frame (wpE (defs₀ (F := F)) 𝒱₀ (c : Thread nD τ) none) Set.univ
              (.op (.load yvM (plR k).toLoadRect h) fun v =>
                .op (.load qsM (plR k).toLoadRect h') fun _ =>
                  .op (.store qsM (plR k) (k1_pay4 (invT A c) v) Finset.univ h2 h3) P) Q) := by
  have hset : (yvS k).view.set = (yvM.access (plR k)).set := slotV_set (R := 1024) (C := 2048) yvM.view k _
  have hset' : (qsS k).view.set = (qsM.access (plR k)).set := slotV_set (R := 1024) (C := 2048) qsM.view k _
  unfold yvP qsP at_
  rw [hset, hset']
  iintro ⟨Hy, ⟨%f, Hq⟩⟩ Hk
  iapply (wp_load_rect 𝒱₀ (c : Thread nD τ) none Set.univ (m := yvM) (r := plR k)
    (q := fullShare) (f := yvT Y c) (Finset.Subset.refl _)) $$ Hy
  iintro Hy
  iapply (wp_load_rect 𝒱₀ (c : Thread nD τ) none Set.univ (m := qsM) (r := plR k)
    (q := fullShare) (f := f) (Finset.Subset.refl _)) $$ Hq
  iintro Hq
  iapply (wp_store 𝒱₀ (c : Thread nD τ) none Set.univ (m := qsM) (r := plR k) (f := f)
    (Mk := Finset.univ) (S := (qsM.access (plR k)).set) (Finset.Subset.refl _)) $$ Hq
  iintro Hq
  iapply Hk
  isplitl [Hy]; · iexact Hy
  iapply (Entails.of_eq (pointsTo_congr (quant_eq Y A c k f))) $$ Hq

end Cert.KernelIdeal.Talk
-- ==== Proof.TalkRun.lean ====
/-
  The exchange's run on one device: from its cells, its debts and its buffers to the block of codes every device sent it.
-/
module

public import proofs.«01_k».proof.Proof.Steps

@[expose] public section

noncomputable section

namespace Cert.KernelIdeal.Talk

open Cert.KernelIdeal Cert.KernelIdeal.Gen Cert.KernelIdeal.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Y : Dev nD → Vec F S1024x8192 .bf16) (A : Dev nD → Vec F S8x128 .f32)

/-- The core's own cells for the copies at home: `0` into the products, `1` into the result. -/
abbrev locS (i : Fin 2) (s : Fin 4) : DmaSem sig := ⟨8 + 4 * i.val + s.val, by have := i.isLt; have := s.isLt; show _ < 33; omega⟩
theorem kind_loc (i : Fin 2) (s : Fin 4) : kind (.dma (locS i s)) = none := by revert i s; decide

abbrev NY : ℕ := (yvS 0).view.dmaCredit
abbrev NQ : ℕ := (qaS 0).view.dmaCredit
theorem NY_pos : 0 < NY := View.dmaCredit_pos _ (by decide)
theorem NQ_pos : 0 < NQ := View.dmaCredit_pos _ (by decide)

theorem src_eq (c : Dev nD) (k : Fin 3) : src c k.val = pr c k.rev.val := by revert c k; decide

section

variable (c : Dev nD)

theorem yC_of {o : Fin 2 → ℕ} {inb : ∀ a, o a + S1024x2048.size a ≤ S1024x8192.size a} {h} (b : Dev nD) (ho : o = ![0, 2048 * b.val]) :
    yM.slice (Rect.unit o S1024x2048.size inb) h = yC b := by subst ho; rfl

theorem qaS_of {o : Fin 3 → ℕ} {inb : ∀ a, o a + S1x1024x2048.size a ≤ S4x1024x2048.size a} {h} (j : Dev nD) (ho : o = ![j.val, 0, 0]) :
    (qaM.slice (Rect.unit o S1x1024x2048.size inb) h).squeeze S1024x2048 squeezes_S1x1024x2048_S1024x2048 = qaS j := by subst ho; rfl

/-! ## What a device starts from and ends with -/

/-- For the peer `k + 1` places on, before. -/
def preK (k : Fin 3) : sProp 𝕄 :=
  iprop(reached ER (barCell (pr c k.val)) 0 ∗ dutyTok ER (barCell (pr c k.val)) 0 k.rev
    ∗ atPos ER (cell c 0 k) 0 ∅ 0 ∗ atPos ER (cell c 1 k) 0 ∅ 0 ∗ atPos ER (cell c 2 k) 0 ∅ 0 ∗ atPos ER (cell c 3 k) 0 ∅ 0
    ∗ reached ER (cell c 0 k) 0 ∗ reached ER (cell c 1 k) 0 ∗ reached ER (cell c 2 k) 0 ∗ reached ER (cell c 3 k) 0
    ∗ dutyTok ER (cell c 0 k) 0 0 ∗ dutyTok ER (cell (pr c k.val) 1 k) 0 0 ∗ dutyTok ER (cell c 2 k) 0 0 ∗ dutyTok ER (cell (pr c k.val) 3 k) 0 0
    ∗ cred (tallyAt (cell c 1 k) () (amt 1)) ∗ cred (tallyAt (cell c 3 k) () (amt 3))
    ∗ (∃ f, arP c k f) ∗ (∃ f, qrP c k f))

/-- For the peer `k + 1` places on, after. -/
def postK (k : Fin 3) : sProp 𝕄 :=
  iprop(atPos ER (cell c 0 k) 1 ∅ 0 ∗ atPos ER (cell c 1 k) 1 ∅ 0 ∗ atPos ER (cell c 2 k) 1 ∅ 0 ∗ atPos ER (cell c 3 k) 1 ∅ 0
    ∗ qrP c k (qrT Y A c))

/-- For slot `s`, before. -/
def preS (s : Fin 4) : sProp 𝕄 :=
  iprop(yP Y c (pr c s.val) ∗ (∃ f, yvP c s f) ∗ (∃ f, qsP c s f) ∗ (∃ f, qaP c (pr c s.val) f)
    ∗ semVal ((c : Thread nD τ), .dma (locS 0 s)) 0 ∗ semVal ((c : Thread nD τ), .dma (locS 1 s)) 0)

/-- For slot `s`, after. -/
def postS (s : Fin 4) : sProp 𝕄 :=
  iprop(yP Y c (pr c s.val) ∗ yvP c s (yvT Y c) ∗ qsP c s (qsT Y A c) ∗ qaP c (pr c s.val) (qaT Y A c)
    ∗ semVal ((c : Thread nD τ), .dma (locS 0 s)) 0 ∗ semVal ((c : Thread nD τ), .dma (locS 1 s)) 0)

def talkPre : sProp 𝕄 :=
  iprop(ow c (O₀ c) ∗ atPos ER (barCell c) 0 ∅ 0 ∗ cred (tallyAt (barCell c) () 3) ∗ aP A c fullShare ∗ (∃ f, at_ c gM fullShare f)
    ∗ bigSep Finset.univ (fun k : Fin 3 => preK (F := F) c k) ∗ bigSep Finset.univ (fun s : Fin 4 => preS Y c s))

def talkPost : sProp 𝕄 :=
  iprop(ow c 0 ∗ atPos ER (barCell c) 1 ∅ 0 ∗ aP A c fullShare ∗ at_ c gM fullShare (gT A c) ∗ at_ c arM fullShare (arT A c)
    ∗ bigSep Finset.univ (fun k : Fin 3 => postK Y A c k) ∗ bigSep Finset.univ (fun s : Fin 4 => postS Y A c s))

/-! ## Pieces of a buffer -/

theorem planes_eq {sp : Space} {e : EltTy} {n R C : ℕ} (M : Memref sig .tc sp (Sh3 n R C) e) (h : (Sh3 1 R C).Squeezes (Sh2 R C))
    (f : Buf (Elt F) (M.view.loc (c : Thread nD τ))) :
    (bigSep Finset.univ (fun k : Fin n => at_ c (plane M h k) fullShare f) : sProp 𝕄) = at_ c M fullShare f := by
  unfold at_
  refine (pointsTo_biUnion (ℓ := M.view.loc (c : Thread nD τ)) Finset.univ (fun k : Fin n => (slotV M.view k h.numel_eq).set)
    (fun a _ b _ hab => slotV_disjoint M.view hab _)).symm.trans ?_
  rw [slotV_biUnion]

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

theorem a_share : (aP A c fullShare : sProp 𝕄) ⊣⊢ iprop((aP A c (shr 0) ∗ aP A c (shr 1)) ∗ aP A c (shr 2) ∗ aP A c shr3) :=
  (pointsTo_share (PosShare.mem_left_op_right fullShare)).trans
    (sep_congr (pointsTo_share (PosShare.mem_left_op_right _)) (pointsTo_share (PosShare.mem_left_op_right _)))

/-- The largest of the maxima: own and received read, the result stored. -/
theorem step_max {hA : aM.view.LoadsAt (Rect.unit (s := S8x128) ![0, 0] ![8, 128] inb_S8x128_S8x128_0_0).toLoadRect}
    {hR : arM.view.LoadsAt (Rect.unit (s := S3x8x128) ![0, 0, 0] ![3, 8, 128] inb_S3x8x128_S3x8x128_0_0_0).toLoadRect}
    {hG : gM.view.LoadsAt (Rect.unit (s := S8x128) ![0, 0] ![8, 128] inb_S8x128_S8x128_0_0).toLoadRect}
    {h2 : (gM.access (Rect.unit (s := S8x128) ![0, 0] ![8, 128] inb_S8x128_S8x128_0_0)).Stores Finset.univ}
    {h3 : (Finset.univ : Finset (Rect.unit (s := S8x128) ![0, 0] ![8, 128] inb_S8x128_S8x128_0_0).shape.Idx) = Finset.univ
      ∨ ∀ a, (Rect.unit (s := S8x128) ![0, 0] ![8, 128] inb_S8x128_S8x128_0_0).stride a = 1}
    {P : Vec F S8x128 .f32 → Vec F S3x8x128 .f32 → PUnit → Prog (TpuEff nD τ sig (Elt F) Λ₀ .tc) PUnit} {Q : PUnit → sProp 𝕄} (q : PosShare TreeShare) :
    iprop(aP A c q ∗ at_ c arM fullShare (arT A c) ∗ (∃ f, at_ c gM fullShare f))
      ⊢ iprop((iprop(aP A c q ∗ at_ c arM fullShare (arT A c) ∗ at_ c gM fullShare (gT A c))
              -∗ wp frame (wpE (defs₀ (F := F)) 𝒱₀ (c : Thread nD τ) none) Set.univ (P (A c) (arT A c) ⟨⟩) Q)
          -∗ wp frame (wpE (defs₀ (F := F)) 𝒱₀ (c : Thread nD τ) none) Set.univ
              (.op (.load aM (Rect.unit (s := S8x128) ![0, 0] ![8, 128] inb_S8x128_S8x128_0_0).toLoadRect hA) fun x =>
                .op (.load arM (Rect.unit (s := S3x8x128) ![0, 0, 0] ![3, 8, 128] inb_S3x8x128_S3x8x128_0_0_0).toLoadRect hR) fun x1 =>
                  .op (.load gM (Rect.unit (s := S8x128) ![0, 0] ![8, 128] inb_S8x128_S8x128_0_0).toLoadRect hG) fun _ =>
                    .op (.store gM (Rect.unit (s := S8x128) ![0, 0] ![8, 128] inb_S8x128_S8x128_0_0) (k1_pay2 x x1) Finset.univ h2 h3) (P x x1)) Q) := by
  have z2 : (![0, 0] : Fin S8x128.rank → ℕ) = fun _ => 0 := by decide
  have z3 : (![0, 0, 0] : Fin S3x8x128.rank → ℕ) = fun _ => 0 := by decide
  have eA : (aM.access (Rect.unit (s := S8x128) ![0, 0] ![8, 128] inb_S8x128_S8x128_0_0)).read (Elt F) (A c) = A c :=
    Memref.read_access_unit_zero (Elt F) main_v1_1 z2 _ _
  have eR : (arM.access (Rect.unit (s := S3x8x128) ![0, 0, 0] ![3, 8, 128] inb_S3x8x128_S3x8x128_0_0_0)).read (Elt F) (arT A c) = arT A c :=
    Memref.read_access_unit_zero (Elt F) cc1_scratch3 z3 _ _
  have univ_A : aM.view.set = Finset.univ := View.set_whole _
  have univ_R : arM.view.set = Finset.univ := View.set_whole _
  have univ_G : gM.view.set = Finset.univ := View.set_whole _
  unfold aP at_
  rw [univ_A, univ_R, univ_G]
  iintro ⟨Ha, Hr, ⟨%f, Hg⟩⟩ Hk
  iapply (wp_load_rect 𝒱₀ (c : Thread nD τ) none Set.univ (m := aM) (r := Rect.unit (s := S8x128) ![0, 0] ![8, 128] inb_S8x128_S8x128_0_0)
    (S := Finset.univ) (q := q) (f := A c) (Finset.subset_univ _)) $$ Ha
  iintro Ha
  rw [eA]
  iapply (wp_load_rect 𝒱₀ (c : Thread nD τ) none Set.univ (m := arM) (r := Rect.unit (s := S3x8x128) ![0, 0, 0] ![3, 8, 128] inb_S3x8x128_S3x8x128_0_0_0)
    (S := Finset.univ) (q := fullShare) (f := arT A c) (Finset.subset_univ _)) $$ Hr
  iintro Hr
  rw [eR]
  iapply (wp_load_rect 𝒱₀ (c : Thread nD τ) none Set.univ (m := gM) (r := Rect.unit (s := S8x128) ![0, 0] ![8, 128] inb_S8x128_S8x128_0_0)
    (S := Finset.univ) (q := fullShare) (f := f) (Finset.subset_univ _)) $$ Hg
  iintro Hg
  iapply (wp_store 𝒱₀ (c : Thread nD τ) none Set.univ (m := gM) (r := Rect.unit (s := S8x128) ![0, 0] ![8, 128] inb_S8x128_S8x128_0_0)
    (S := Finset.univ) (f := f) (Finset.subset_univ _)) $$ Hg
  iintro Hg
  have eG : (gM.access (Rect.unit (s := S8x128) ![0, 0] ![8, 128] inb_S8x128_S8x128_0_0)).write (Elt F) f (k1_pay2 (A c) (arT A c)) Finset.univ = gT A c :=
    Memref.write_access_unit_zero_univ (Elt F) cc1_stg1_0 z2 _ _ _
  rw [eG]
  iapply Hk
  isplitl [Ha]; · iexact Ha
  isplitl [Hr]; · iexact Hr
  iexact Hg

end

/-! ## The copies at home -/

theorem yv_credit (s : Fin 4) : (yvS s).view.dmaCredit = NY := rfl
theorem qa_credit {o : Fin 3 → ℕ} {inb : ∀ a, o a + S1x1024x2048.size a ≤ S4x1024x2048.size a} {h} :
    ((qaM.slice (Rect.unit o S1x1024x2048.size inb) h).squeeze S1024x2048 squeezes_S1x1024x2048_S1024x2048).view.dmaCredit = NQ := rfl

/-- The products of the column block of the peer of slot `s` into that slot. -/
theorem step_in (c : Dev nD) (s : Fin 4) {S' : Memref sig .tc .hbm S1024x2048 .bf16} {D'' : Memref sig .tc .vmem S1024x2048 .bf16} {sm' : DmaSem sig}
    {h : S'.view.WordExact} {h' : D''.view.WordExact} {h'' : DmaTarget.Typed (nD := nD) (p := .tc) .hbm (.dma sm') (.here D'')}
    {P : PUnit → Prog (TpuEff nD τ sig (Elt F) Λ₀ .tc) PUnit} {Q : PUnit → sProp 𝕄}
    (hS : S' = yC (pr c s.val)) (hD : D'' = yvS s) (hs : sm' = locS 0 s) :
    iprop(yP Y c (pr c s.val) ∗ (∃ f, yvP c s f) ∗ semVal ((c : Thread nD τ), .dma (locS 0 s)) 0)
      ⊢ iprop((Transfers.Flight (EC (F := F)) (c : Thread nD τ) (.dma (locS 0 s)) () NY iprop(yvP c s (yvT Y c) ∗ yP Y c (pr c s.val))
              -∗ wp frame (wpE (defs₀ (F := F)) 𝒱₀ (c : Thread nD τ) none) Set.univ (P ⟨⟩) Q)
          -∗ wp frame (wpE (defs₀ (F := F)) 𝒱₀ (c : Thread nD τ) none) Set.univ
              (.op (.enqueueDma (p := .tc) S' (.here D'') (.dma sm') h h' h'') P) Q) :=
  step_local c hS hD hs (Y c) (yvT Y c) fullShare ((yvS_read Y c s).trans (yC_read _ _).symm) NY (yv_credit s) NY_pos

/-- The codes kept at home, into the result's block of the core's own. -/
theorem step_own (c : Dev nD) {S' : Memref sig .tc .vmem S1024x2048 .i8} {D'' : Memref sig .tc .hbm S1024x2048 .i8} {sm' : DmaSem sig}
    {h : S'.view.WordExact} {h' : D''.view.WordExact} {h'' : DmaTarget.Typed (nD := nD) (p := .tc) .vmem (.dma sm') (.here D'')}
    {P : PUnit → Prog (TpuEff nD τ sig (Elt F) Λ₀ .tc) PUnit} {Q : PUnit → sProp 𝕄}
    (hS : S' = qsS 3) (hD : D'' = qaS (pr c (3 : Fin 4).val)) (hs : sm' = locS 1 3) :
    iprop(qsP c 3 (qsT Y A c) ∗ (∃ f, qaP c (pr c (3 : Fin 4).val) f) ∗ semVal ((c : Thread nD τ), .dma (locS 1 3)) 0)
      ⊢ iprop((Transfers.Flight (EC (F := F)) (c : Thread nD τ) (.dma (locS 1 3)) () NQ
                iprop(qaP c (pr c (3 : Fin 4).val) (qaT Y A c) ∗ qsP c 3 (qsT Y A c))
              -∗ wp frame (wpE (defs₀ (F := F)) 𝒱₀ (c : Thread nD τ) none) Set.univ (P ⟨⟩) Q)
          -∗ wp frame (wpE (defs₀ (F := F)) 𝒱₀ (c : Thread nD τ) none) Set.univ
              (.op (.enqueueDma (p := .tc) S' (.here D'') (.dma sm') h h' h'') P) Q) :=
  step_local c hS hD hs (qsT Y A c) (qaT Y A c) fullShare
    ((qaS_read Y A c _).trans (((qsS_read Y A c 3).trans (by rw [show pr c (3 : Fin 4).val = c from pr_three c])).symm)) NQ qa_credit NQ_pos

/-- The codes received from the peer whose slot this is, into the result's block of that peer. -/
theorem step_out (c : Dev nD) (k : Fin 3) {S' : Memref sig .tc .vmem S1024x2048 .i8} {D'' : Memref sig .tc .hbm S1024x2048 .i8} {sm' : DmaSem sig}
    {h : S'.view.WordExact} {h' : D''.view.WordExact} {h'' : DmaTarget.Typed (nD := nD) (p := .tc) .vmem (.dma sm') (.here D'')}
    {P : PUnit → Prog (TpuEff nD τ sig (Elt F) Λ₀ .tc) PUnit} {Q : PUnit → sProp 𝕄}
    (hS : S' = qrS k) (hD : D'' = qaS (pr c k.rev.val)) (hs : sm' = locS 1 k.castSucc) :
    iprop(qrP c k (qrT Y A c) ∗ (∃ f, qaP c (pr c k.rev.val) f) ∗ semVal ((c : Thread nD τ), .dma (locS 1 k.castSucc)) 0)
      ⊢ iprop((Transfers.Flight (EC (F := F)) (c : Thread nD τ) (.dma (locS 1 k.castSucc)) () NQ
                iprop(qaP c (pr c k.rev.val) (qaT Y A c) ∗ qrP c k (qrT Y A c))
              -∗ wp frame (wpE (defs₀ (F := F)) 𝒱₀ (c : Thread nD τ) none) Set.univ (P ⟨⟩) Q)
          -∗ wp frame (wpE (defs₀ (F := F)) 𝒱₀ (c : Thread nD τ) none) Set.univ
              (.op (.enqueueDma (p := .tc) S' (.here D'') (.dma sm') h h' h'') P) Q) :=
  step_local c hS hD hs (qrT Y A c) (qaT Y A c) fullShare
    ((qaS_read Y A c _).trans (((qrS_read Y A c k).trans (by rw [src_eq])).symm)) NQ qa_credit NQ_pos

set_option maxHeartbeats 8000000 in
theorem talk_run (K : GSem nD τ sig → ℕ) (c : Dev nD) (Kt : PUnit → sProp 𝕄) :
    iprop(invs Y A K ∗ levAts L lv ∗ talkPre Y A c ∗ (talkPost Y A c -∗ Kt ⟨⟩))
      ⊢ wp frame (wpE (defs₀ (F := F)) 𝒱₀ c none) Set.univ
        (cc1_body yM (Memref.isWhole_whole _) aM (Memref.isWhole_whole _) qaM (Memref.isWhole_whole _) gM (Memref.isWhole_whole _)
          yvM (Memref.isWhole_whole _) qsM (Memref.isWhole_whole _) qrM (Memref.isWhole_whole _) arM (Memref.isWhole_whole _)
          cc1_scratch4 cc1_scratch5 cc1_scratch6 cc1_scratch7 cc1_scratch8 cc1_scratch9) Kt := by
  simp only [cc1_body_eq_skeleton]; unfold cc1_body_skel
  simp only [k1_part1_eq_skeleton, k1_part2_eq_skeleton, k1_part3_eq_skeleton, k1_part4_eq_skeleton, k1_part5_eq_skeleton, k1_part6_eq_skeleton,
    k1_part7_eq_skeleton, k1_part8_eq_skeleton, k1_part9_eq_skeleton, k1_part10_eq_skeleton, k1_part11_eq_skeleton, k1_part12_eq_skeleton,
    k1_part13_eq_skeleton, k1_part14_eq_skeleton, k1_part15_eq_skeleton]
  unfold k1_part1_skel k1_part2_skel k1_part3_skel k1_part4_skel k1_part5_skel k1_part6_skel k1_part7_skel k1_part8_skel k1_part9_skel
    k1_part10_skel k1_part11_skel k1_part12_skel k1_part13_skel k1_part14_skel k1_part15_skel
  simp only [semSignalWord, semWaitWord, Prog.lift, Prog.bind_op, Prog.bind_ret, Prog.pure_eq_ret, Prog.bind_assoc, wp_deviceId,
    pay5_eq, pay6_eq, pay7_eq]
  unfold talkPre
  rw [bigSep_three, bigSep_four]
  unfold preK preS
  iintro ⟨#HI, #Hlev, ⟨HO, HPB, HCB, HA, HG, ⟨⟨#HB0, HT0, HP00, HP10, HP20, HP30, #HR00, #HR10, #HR20, #HR30, HT00, HT10, HT20, HT30, HC10, HC30, HAR0, HQR0⟩, ⟨#HB1, HT1, HP01, HP11, HP21, HP31, #HR01, #HR11, #HR21, #HR31, HT01, HT11, HT21, HT31, HC11, HC31, HAR1, HQR1⟩, ⟨#HB2, HT2, HP02, HP12, HP22, HP32, #HR02, #HR12, #HR22, #HR32, HT02, HT12, HT22, HT32, HC12, HC32, HAR2, HQR2⟩⟩, ⟨⟨HY0, HYV0, HQS0, HQA0, HL00, HL10⟩, ⟨HY1, HYV1, HQS1, HQA1, HL01, HL11⟩, ⟨HY2, HYV2, HQS2, HQA2, HL02, HL12⟩, ⟨HY3, HYV3, HQS3, HQA3, HL03, HL13⟩⟩⟩, HK⟩
  iapply (step_signal Y A K c 0 (OS2 c) (O₀ c) rfl (congrArg (fun d : Dev nD => (d : Thread nD τ)) (dev1_eq c)) rfl rfl) $$ [HO HT0 HAR2 HQR2]
  · isplitr; · iexact HI
    isplitl [HO]; · iexact HO
    isplitl [HT0]; · iexact HT0
    isplitr; · iexact HB0
    isplitl [HAR2]; · iexact HAR2
    isplitl [HQR2]; · iexact HQR2
    isplitr; · iexact HR12
    iexact HR32
  iintro HO
  iapply (step_signal Y A K c 1 (OS1 c) (OS2 c) rfl (congrArg (fun d : Dev nD => (d : Thread nD τ)) (dev2_eq c)) rfl rfl) $$ [HO HT1 HAR1 HQR1]
  · isplitr; · iexact HI
    isplitl [HO]; · iexact HO
    isplitl [HT1]; · iexact HT1
    isplitr; · iexact HB1
    isplitl [HAR1]; · iexact HAR1
    isplitl [HQR1]; · iexact HQR1
    isplitr; · iexact HR11
    iexact HR31
  iintro HO
  iapply (step_signal Y A K c 2 (OA3 c) (OS1 c) rfl (congrArg (fun d : Dev nD => (d : Thread nD τ)) (dev3_eq c)) rfl rfl) $$ [HO HT2 HAR0 HQR0]
  · isplitr; · iexact HI
    isplitl [HO]; · iexact HO
    isplitl [HT2]; · iexact HT2
    isplitr; · iexact HB2
    isplitl [HAR0]; · iexact HAR0
    isplitl [HQR0]; · iexact HQR0
    isplitr; · iexact HR10
    iexact HR30
  iintro HO
  iapply (step_barWait Y A K c 1 (by decide) (OA3 c) (OA3_above c) rfl rfl) $$ [HCB HO HPB]
  · isplitr; · iexact HI
    isplitr; · iexact Hlev
    isplitl [HCB]; · iexact HCB
    isplitl [HO]; · iexact HO
    iexact HPB
  iintro ⟨HO, HPB, Hpay⟩
  ihave Hpay := (Entails.of_eq (bigSep_three _)) $$ Hpay
  unfold barPay
  icases Hpay with ⟨⟨HPA0, HPQ0, #HPR10, #HPR30⟩, ⟨HPA1, HPQ1, #HPR11, #HPR31⟩, ⟨HPA2, HPQ2, #HPR12, #HPR32⟩⟩
  ihave HA := (a_share A c).1 $$ HA
  icases HA with ⟨⟨HA0, HA1⟩, HA2, HA3⟩
  iapply (step_sendA Y A K c 0 (OA2 c) (OA3 c) rfl (dev4_eq c) rfl rfl rfl) $$ [HO HA0 HPA0 HT00 HT10]
  · isplitr; · iexact HI
    isplitl [HO]; · iexact HO
    isplitl [HA0]; · iexact HA0
    isplitl [HPA0]; · iexact HPA0
    isplitl [HT00]; · iexact HT00
    isplitr; · iexact HR00
    isplitl [HT10]; · iexact HT10
    iexact HPR10
  iintro ⟨HC00, HO⟩
  iapply (step_sendA Y A K c 1 (OA1 c) (OA2 c) rfl (dev5_eq c) rfl rfl rfl) $$ [HO HA1 HPA1 HT01 HT11]
  · isplitr; · iexact HI
    isplitl [HO]; · iexact HO
    isplitl [HA1]; · iexact HA1
    isplitl [HPA1]; · iexact HPA1
    isplitl [HT01]; · iexact HT01
    isplitr; · iexact HR01
    isplitl [HT11]; · iexact HT11
    iexact HPR11
  iintro ⟨HC01, HO⟩
  iapply (step_sendA Y A K c 2 (OB3 c) (OA1 c) rfl (dev6_eq c) rfl rfl rfl) $$ [HO HA2 HPA2 HT02 HT12]
  · isplitr; · iexact HI
    isplitl [HO]; · iexact HO
    isplitl [HA2]; · iexact HA2
    isplitl [HPA2]; · iexact HPA2
    isplitl [HT02]; · iexact HT02
    isplitr; · iexact HR02
    isplitl [HT12]; · iexact HT12
    iexact HPR12
  iintro ⟨HC02, HO⟩
  iapply (step_in Y c 0 (yC_of _ (off1_eq c 0)) rfl rfl) $$ [HY0 HYV0 HL00]
  · isplitl [HY0]; · iexact HY0
    isplitl [HYV0]; · iexact HYV0
    iexact HL00
  iintro HF0
  iapply (step_in Y c 2 (yC_of _ (off1_eq c 2)) rfl rfl) $$ [HY2 HYV2 HL02]
  · isplitl [HY2]; · iexact HY2
    isplitl [HYV2]; · iexact HYV2
    iexact HL02
  iintro HF2
  iapply (step_in Y c 1 (yC_of _ (off1_eq c 1)) rfl rfl) $$ [HY1 HYV1 HL01]
  · isplitl [HY1]; · iexact HY1
    isplitl [HYV1]; · iexact HYV1
    iexact HL01
  iintro HF1
  iapply (step_in Y c 3 (yC_of _ (off2_eq c)) rfl rfl) $$ [HY3 HYV3 HL03]
  · isplitl [HY3]; · iexact HY3
    isplitl [HYV3]; · iexact HYV3
    iexact HL03
  iintro HF3
  iapply (step_wait Y A K c 0 0 2 (by decide) (OB3 c) (OB3_above c) (dstw := aM) rfl rfl (pay0 Y A c 0)) $$ [HC00 HO HP00]
  · isplitr; · iexact HI
    isplitr; · iexact Hlev
    isplitl [HC00]; · iexact HC00
    isplitl [HO]; · iexact HO
    iexact HP00
  iintro ⟨HO, HP00, HA0⟩
  iapply (step_wait Y A K c 1 0 2 (by decide) (OB3 c) (OB3_above c) (dstw := arS 0) rfl rfl (pay1 Y A c 0)) $$ [HC10 HO HP10]
  · isplitr; · iexact HI
    isplitr; · iexact Hlev
    isplitl [HC10]; · iexact HC10
    isplitl [HO]; · iexact HO
    iexact HP10
  iintro ⟨HO, HP10, HAR0⟩
  iapply (step_wait Y A K c 0 1 2 (by decide) (OB3 c) (OB3_above c) (dstw := aM) rfl rfl (pay0 Y A c 1)) $$ [HC01 HO HP01]
  · isplitr; · iexact HI
    isplitr; · iexact Hlev
    isplitl [HC01]; · iexact HC01
    isplitl [HO]; · iexact HO
    iexact HP01
  iintro ⟨HO, HP01, HA1⟩
  iapply (step_wait Y A K c 1 1 2 (by decide) (OB3 c) (OB3_above c) (dstw := arS 1) rfl rfl (pay1 Y A c 1)) $$ [HC11 HO HP11]
  · isplitr; · iexact HI
    isplitr; · iexact Hlev
    isplitl [HC11]; · iexact HC11
    isplitl [HO]; · iexact HO
    iexact HP11
  iintro ⟨HO, HP11, HAR1⟩
  iapply (step_wait Y A K c 0 2 2 (by decide) (OB3 c) (OB3_above c) (dstw := aM) rfl rfl (pay0 Y A c 2)) $$ [HC02 HO HP02]
  · isplitr; · iexact HI
    isplitr; · iexact Hlev
    isplitl [HC02]; · iexact HC02
    isplitl [HO]; · iexact HO
    iexact HP02
  iintro ⟨HO, HP02, HA2⟩
  iapply (step_wait Y A K c 1 2 2 (by decide) (OB3 c) (OB3_above c) (dstw := arS 2) rfl rfl (pay1 Y A c 2)) $$ [HC12 HO HP12]
  · isplitr; · iexact HI
    isplitr; · iexact Hlev
    isplitl [HC12]; · iexact HC12
    isplitl [HO]; · iexact HO
    iexact HP12
  iintro ⟨HO, HP12, HAR2⟩
  ihave HAR := (Entails.of_eq ((bigSep_three (fun k : Fin 3 => arP c k (arT A c))).symm.trans (planes_eq (n := 3) (R := 8) (C := 128) c arM _ (arT A c)))) $$ [HAR0 HAR1 HAR2]
  · isplitl [HAR0]; · iexact HAR0
    isplitl [HAR1]; · iexact HAR1
    iexact HAR2
  iapply (step_max A c shr3) $$ [HA3 HAR HG]
  · isplitl [HA3]; · iexact HA3
    isplitl [HAR]; · iexact HAR
    iexact HG
  iintro ⟨HA3, HAR, HG⟩
  iapply (step_localWait c 2 (OB3 c) (OB3_above c) (sm := locS 0 0) rfl NY (yv_credit 0) (kind_loc 0 0)) $$ [HF0 HO]
  · isplitr; · iexact Hlev
    isplitl [HF0]; · iexact HF0
    iexact HO
  iintro ⟨⟨HYV0, HY0⟩, HL00, HO⟩
  iapply (step_quant Y A c 0) $$ [HYV0 HQS0]
  · isplitl [HYV0]; · iexact HYV0
    iexact HQS0
  iintro ⟨HYV0, HQS0⟩
  iapply (step_sendB Y A K c 0 (OB2 c) (OB3 c) rfl (dev7_eq c) rfl rfl rfl rfl) $$ [HO HQS0 HPQ0 HT20 HT30]
  · isplitr; · iexact HI
    isplitl [HO]; · iexact HO
    isplitl [HQS0]; · iexact HQS0
    isplitl [HPQ0]; · iexact HPQ0
    isplitl [HT20]; · iexact HT20
    isplitr; · iexact HR20
    isplitl [HT30]; · iexact HT30
    iexact HPR30
  iintro ⟨HC20, HO⟩
  iapply (step_localWait c 2 (OB2 c) (OB2_above c) (sm := locS 0 2) rfl NY (yv_credit 2) (kind_loc 0 2)) $$ [HF2 HO]
  · isplitr; · iexact Hlev
    isplitl [HF2]; · iexact HF2
    iexact HO
  iintro ⟨⟨HYV2, HY2⟩, HL02, HO⟩
  iapply (step_quant Y A c 2) $$ [HYV2 HQS2]
  · isplitl [HYV2]; · iexact HYV2
    iexact HQS2
  iintro ⟨HYV2, HQS2⟩
  iapply (step_sendB Y A K c 2 (OB1 c) (OB2 c) rfl (dev8_eq c) rfl rfl rfl rfl) $$ [HO HQS2 HPQ2 HT22 HT32]
  · isplitr; · iexact HI
    isplitl [HO]; · iexact HO
    isplitl [HQS2]; · iexact HQS2
    isplitl [HPQ2]; · iexact HPQ2
    isplitl [HT22]; · iexact HT22
    isplitr; · iexact HR22
    isplitl [HT32]; · iexact HT32
    iexact HPR32
  iintro ⟨HC22, HO⟩
  iapply (step_localWait c 2 (OB1 c) (OB1_above c) (sm := locS 0 1) rfl NY (yv_credit 1) (kind_loc 0 1)) $$ [HF1 HO]
  · isplitr; · iexact Hlev
    isplitl [HF1]; · iexact HF1
    iexact HO
  iintro ⟨⟨HYV1, HY1⟩, HL01, HO⟩
  iapply (step_quant Y A c 1) $$ [HYV1 HQS1]
  · isplitl [HYV1]; · iexact HYV1
    iexact HQS1
  iintro ⟨HYV1, HQS1⟩
  iapply (step_sendB Y A K c 1 (0) (OB1 c) rfl (dev9_eq c) rfl rfl rfl rfl) $$ [HO HQS1 HPQ1 HT21 HT31]
  · isplitr; · iexact HI
    isplitl [HO]; · iexact HO
    isplitl [HQS1]; · iexact HQS1
    isplitl [HPQ1]; · iexact HPQ1
    isplitl [HT21]; · iexact HT21
    isplitr; · iexact HR21
    isplitl [HT31]; · iexact HT31
    iexact HPR31
  iintro ⟨HC21, HO⟩
  iapply (step_localWait c 2 (0) (Above.zero _) (sm := locS 0 3) rfl NY (yv_credit 3) (kind_loc 0 3)) $$ [HF3 HO]
  · isplitr; · iexact Hlev
    isplitl [HF3]; · iexact HF3
    iexact HO
  iintro ⟨⟨HYV3, HY3⟩, HL03, HO⟩
  iapply (step_quant Y A c 3) $$ [HYV3 HQS3]
  · isplitl [HYV3]; · iexact HYV3
    iexact HQS3
  iintro ⟨HYV3, HQS3⟩
  iapply (step_own Y A c rfl (qaS_of _ ((off3_eq c).trans (by rw [show pr c (3 : Fin 4).val = c from pr_three c]))) rfl) $$ [HQS3 HQA3 HL13]
  · isplitl [HQS3]; · iexact HQS3
    isplitl [HQA3]; · iexact HQA3
    iexact HL13
  iintro HF3
  iapply (step_wait Y A K c 3 0 3 (by decide) 0 (Above.zero _) (dstw := qrS 0) rfl rfl (pay3 Y A c 0)) $$ [HC30 HO HP30]
  · isplitr; · iexact HI
    isplitr; · iexact Hlev
    isplitl [HC30]; · iexact HC30
    isplitl [HO]; · iexact HO
    iexact HP30
  iintro ⟨HO, HP30, HQR0⟩
  iapply (step_out Y A c 0 rfl (qaS_of _ ((off4_eq c 0).trans (by rw [src_eq]))) rfl) $$ [HQR0 HQA2 HL10]
  · isplitl [HQR0]; · iexact HQR0
    isplitl [HQA2]; · iexact HQA2
    iexact HL10
  iintro HF0
  iapply (step_wait Y A K c 3 2 3 (by decide) 0 (Above.zero _) (dstw := qrS 2) rfl rfl (pay3 Y A c 2)) $$ [HC32 HO HP32]
  · isplitr; · iexact HI
    isplitr; · iexact Hlev
    isplitl [HC32]; · iexact HC32
    isplitl [HO]; · iexact HO
    iexact HP32
  iintro ⟨HO, HP32, HQR2⟩
  iapply (step_out Y A c 2 rfl (qaS_of _ ((off4_eq c 2).trans (by rw [src_eq]))) rfl) $$ [HQR2 HQA0 HL12]
  · isplitl [HQR2]; · iexact HQR2
    isplitl [HQA0]; · iexact HQA0
    iexact HL12
  iintro HF2
  iapply (step_wait Y A K c 3 1 3 (by decide) 0 (Above.zero _) (dstw := qrS 1) rfl rfl (pay3 Y A c 1)) $$ [HC31 HO HP31]
  · isplitr; · iexact HI
    isplitr; · iexact Hlev
    isplitl [HC31]; · iexact HC31
    isplitl [HO]; · iexact HO
    iexact HP31
  iintro ⟨HO, HP31, HQR1⟩
  iapply (step_out Y A c 1 rfl (qaS_of _ ((off4_eq c 1).trans (by rw [src_eq]))) rfl) $$ [HQR1 HQA1 HL11]
  · isplitl [HQR1]; · iexact HQR1
    isplitl [HQA1]; · iexact HQA1
    iexact HL11
  iintro HF1
  iapply (step_localWait c 2 0 (Above.zero _) (sm := locS 1 3) rfl NQ qa_credit (kind_loc 1 3)) $$ [HF3 HO]
  · isplitr; · iexact Hlev
    isplitl [HF3]; · iexact HF3
    iexact HO
  iintro ⟨⟨HQA3, HQS3⟩, HL13, HO⟩
  iapply (step_localWait c 2 0 (Above.zero _) (sm := locS 1 0) rfl NQ qa_credit (kind_loc 1 0)) $$ [HF0 HO]
  · isplitr; · iexact Hlev
    isplitl [HF0]; · iexact HF0
    iexact HO
  iintro ⟨⟨HQA2, HQR0⟩, HL10, HO⟩
  iapply (step_localWait c 2 0 (Above.zero _) (sm := locS 1 2) rfl NQ qa_credit (kind_loc 1 2)) $$ [HF2 HO]
  · isplitr; · iexact Hlev
    isplitl [HF2]; · iexact HF2
    iexact HO
  iintro ⟨⟨HQA0, HQR2⟩, HL12, HO⟩
  iapply (step_localWait c 2 0 (Above.zero _) (sm := locS 1 1) rfl NQ qa_credit (kind_loc 1 1)) $$ [HF1 HO]
  · isplitr; · iexact Hlev
    isplitl [HF1]; · iexact HF1
    iexact HO
  iintro ⟨⟨HQA1, HQR1⟩, HL11, HO⟩
  iapply (step_wait Y A K c 2 0 2 (by decide) 0 (Above.zero _) (dstw := qsS 0) rfl rfl (pay2 Y A c 0)) $$ [HC20 HO HP20]
  · isplitr; · iexact HI
    isplitr; · iexact Hlev
    isplitl [HC20]; · iexact HC20
    isplitl [HO]; · iexact HO
    iexact HP20
  iintro ⟨HO, HP20, HQS0⟩
  iapply (step_wait Y A K c 2 2 2 (by decide) 0 (Above.zero _) (dstw := qsS 2) rfl rfl (pay2 Y A c 2)) $$ [HC22 HO HP22]
  · isplitr; · iexact HI
    isplitr; · iexact Hlev
    isplitl [HC22]; · iexact HC22
    isplitl [HO]; · iexact HO
    iexact HP22
  iintro ⟨HO, HP22, HQS2⟩
  iapply (step_wait Y A K c 2 1 2 (by decide) 0 (Above.zero _) (dstw := qsS 1) rfl rfl (pay2 Y A c 1)) $$ [HC21 HO HP21]
  · isplitr; · iexact HI
    isplitr; · iexact Hlev
    isplitl [HC21]; · iexact HC21
    isplitl [HO]; · iexact HO
    iexact HP21
  iintro ⟨HO, HP21, HQS1⟩
  rw [wp_ret]
  imodintro
  iapply HK
  unfold talkPost
  isplitl [HO]; · iexact HO
  isplitl [HPB]; · iexact HPB
  isplitl [HA0 HA1 HA2 HA3]
  · iapply (a_share A c).2
    isplitl [HA0 HA1]
    · isplitl [HA0]; · iexact HA0
      iexact HA1
    · isplitl [HA2]; · iexact HA2
      iexact HA3
  isplitl [HG]; · iexact HG
  isplitl [HAR]; · iexact HAR
  isplitl [HP00 HP10 HP20 HP30 HQR0 HP01 HP11 HP21 HP31 HQR1 HP02 HP12 HP22 HP32 HQR2]
  · rw [bigSep_three]; unfold postK
    isplitl [HP00 HP10 HP20 HP30 HQR0]
    · isplitl [HP00]; · iexact HP00
      isplitl [HP10]; · iexact HP10
      isplitl [HP20]; · iexact HP20
      isplitl [HP30]; · iexact HP30
      iexact HQR0
    isplitl [HP01 HP11 HP21 HP31 HQR1]
    · isplitl [HP01]; · iexact HP01
      isplitl [HP11]; · iexact HP11
      isplitl [HP21]; · iexact HP21
      isplitl [HP31]; · iexact HP31
      iexact HQR1
    · isplitl [HP02]; · iexact HP02
      isplitl [HP12]; · iexact HP12
      isplitl [HP22]; · iexact HP22
      isplitl [HP32]; · iexact HP32
      iexact HQR2
  · rw [bigSep_four]; unfold postS
    isplitl [HY0 HYV0 HQS0 HQA0 HL00 HL10]
    · isplitl [HY0]; · iexact HY0
      isplitl [HYV0]; · iexact HYV0
      isplitl [HQS0]; · iexact HQS0
      isplitl [HQA0]; · iexact HQA0
      isplitl [HL00]; · iexact HL00
      iexact HL10
    isplitl [HY1 HYV1 HQS1 HQA1 HL01 HL11]
    · isplitl [HY1]; · iexact HY1
      isplitl [HYV1]; · iexact HYV1
      isplitl [HQS1]; · iexact HQS1
      isplitl [HQA1]; · iexact HQA1
      isplitl [HL01]; · iexact HL01
      iexact HL11
    isplitl [HY2 HYV2 HQS2 HQA2 HL02 HL12]
    · isplitl [HY2]; · iexact HY2
      isplitl [HYV2]; · iexact HYV2
      isplitl [HQS2]; · iexact HQS2
      isplitl [HQA2]; · iexact HQA2
      isplitl [HL02]; · iexact HL02
      iexact HL12
    · isplitl [HY3]; · iexact HY3
      isplitl [HYV3]; · iexact HYV3
      isplitl [HQS3]; · iexact HQS3
      isplitl [HQA3]; · iexact HQA3
      isplitl [HL03]; · iexact HL03
      iexact HL13

end Cert.KernelIdeal.Talk
-- ==== Proof.Exchange.lean ====
/-
  The exchange as one call of the program: its cells opened on entry, the run, its cells closed before the return, the
  buffers given back at their new contents.
-/
module

public import proofs.«01_k».proof.Proof.TalkRun
public import proofs.«01_k».proof.Proof.Gen.KernelIdeal.Points
public import Idealize.ShloMosaic.Lib.Pipeline.FrameBody
public import Idealize.ShloMosaic.Lib.Pipeline.RegionTalk

@[expose] public section

noncomputable section

namespace Cert.KernelIdeal.Talk

open Cert.KernelIdeal Cert.KernelIdeal.Gen Cert.KernelIdeal.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## The call's own semaphores -/

/-- The eight cells of the copies at home, two to a slot; the twelve of the exchange, four to a peer. -/
def osem1 : (Fin 4 × Fin 2) ⊕ (Fin 3 × Fin 4) → SemLoc sig
  | .inl p => .dma (locS p.2 p.1)
  | .inr p => .dma (cS p.2 p.1)

theorem osem1_facts : Pipeline.OwnSemFacts spec1 osem1 := by decide

def semsS (c : Dev nD) (s : Fin 4) : sProp 𝕄 :=
  iprop(semVal ((c : Thread nD τ), .dma (locS 0 s)) 0 ∗ semVal ((c : Thread nD τ), .dma (locS 1 s)) 0)
def semsK (c : Dev nD) (k : Fin 3) : sProp 𝕄 :=
  iprop(semVal (cell c 0 k) 0 ∗ semVal (cell c 1 k) 0 ∗ semVal (cell c 2 k) 0 ∗ semVal (cell c 3 k) 0)

theorem ownSems1_eq (c : Dev nD) : (Pipeline.ownSems0 osem1 c : sProp 𝕄)
    = iprop(bigSep Finset.univ (fun s => semsS (F := F) c s) ∗ bigSep Finset.univ (fun k => semsK (F := F) c k)) := by
  unfold Pipeline.ownSems0
  rw [bigSep_univ_sum, bigSep_univ_prod, bigSep_univ_prod]
  refine congrArg₂ (fun a b => iprop(a ∗ b)) (bigSep_congr fun s _ => ?_) (bigSep_congr fun k _ => ?_)
  · exact bigSep_fin_two (fun i : Fin 2 => (semVal ((c : Thread nD τ), osem1 (.inl (s, i))) 0 : sProp 𝕄))
  · exact bigSep_four (F := F) (fun a : Fin 4 => (semVal ((c : Thread nD τ), osem1 (.inr (k, a))) 0 : sProp 𝕄))

section

variable (Y : Dev nD → Vec F S1024x8192 .bf16) (A : Dev nD → Vec F S8x128 .f32)

/-- What a device keeps from the launch for the peer `k + 1` places on: the right to open its four cells, the tokens it
    pays with, and the credit it waits with. -/
def tok (c : Dev nD) (k : Fin 3) : sProp 𝕄 :=
  iprop(reached ER (barCell (pr c k.val)) 0 ∗ dutyTok ER (barCell (pr c k.val)) 0 k.rev
    ∗ openTok ER (cell c 0 k) ∗ openTok ER (cell c 1 k) ∗ openTok ER (cell c 2 k) ∗ openTok ER (cell c 3 k)
    ∗ dutyTok ER (cell c 0 k) 0 0 ∗ dutyTok ER (cell (pr c k.val) 1 k) 0 0 ∗ dutyTok ER (cell c 2 k) 0 0 ∗ dutyTok ER (cell (pr c k.val) 3 k) 0 0
    ∗ cred (tallyAt (cell c 1 k) () (amt 1)) ∗ cred (tallyAt (cell c 3 k) () (amt 3)))

/-- The same, the cells open. -/
def opn (c : Dev nD) (k : Fin 3) : sProp 𝕄 :=
  iprop(reached ER (barCell (pr c k.val)) 0 ∗ dutyTok ER (barCell (pr c k.val)) 0 k.rev
    ∗ atPos ER (cell c 0 k) 0 ∅ 0 ∗ atPos ER (cell c 1 k) 0 ∅ 0 ∗ atPos ER (cell c 2 k) 0 ∅ 0 ∗ atPos ER (cell c 3 k) 0 ∅ 0
    ∗ reached ER (cell c 0 k) 0 ∗ reached ER (cell c 1 k) 0 ∗ reached ER (cell c 2 k) 0 ∗ reached ER (cell c 3 k) 0
    ∗ dutyTok ER (cell c 0 k) 0 0 ∗ dutyTok ER (cell (pr c k.val) 1 k) 0 0 ∗ dutyTok ER (cell c 2 k) 0 0 ∗ dutyTok ER (cell (pr c k.val) 3 k) 0 0
    ∗ cred (tallyAt (cell c 1 k) () (amt 1)) ∗ cred (tallyAt (cell c 3 k) () (amt 3)))

def Tk (c : Dev nD) : sProp 𝕄 :=
  iprop(∃ K, invs Y A K ∗ atPos ER (barCell c) 0 ∅ 0 ∗ cred (tallyAt (barCell c) () 3) ∗ bigSep Finset.univ (fun k => tok (F := F) c k))
def Xk (c : Dev nD) : sProp 𝕄 :=
  iprop(∃ K, invs Y A K ∗ levAts L lv ∗ atPos ER (barCell c) 0 ∅ 0 ∗ cred (tallyAt (barCell c) () 3) ∗ bigSep Finset.univ (fun k => opn (F := F) c k)
    ∗ bigSep Finset.univ (fun s => semsS (F := F) c s))
def Yk (c : Dev nD) : sProp 𝕄 := semVal (barCell c) 0

theorem open_cell (K : GSem nD τ sig → ℕ) (c : Dev nD) (a : Fin 4) (k : Fin 3) :
    iprop(invs Y A K ∗ openTok ER (cell c a k) ∗ semVal (cell c a k) 0)
      ⊢ (|={Set.univ}=> iprop(atPos ER (cell c a k) 0 ∅ 0 ∗ reached ER (cell c a k) 0) : sProp 𝕄) := by
  iintro ⟨#HI, Ho, Hs⟩
  iapply (Rounds.cell_open ER (rd Y A) (g := cell c a k) (Set.mem_univ (K (cell c a k))))
  isplitr; · iapply (inv_cell Y A K c a k); iexact HI
  isplitl [Ho] <;> iassumption

theorem close_cell (K : GSem nD τ sig → ℕ) (c : Dev nD) (a : Fin 4) (k : Fin 3) :
    iprop(invs Y A K ∗ atPos ER (cell c a k) 1 ∅ 0) ⊢ (|={Set.univ}=> semVal (cell c a k) 0 : sProp 𝕄) := by
  iintro ⟨#HI, Ha⟩
  iapply (Rounds.cell_close ER (rd Y A) (g := cell c a k) (Set.mem_univ (K (cell c a k))) id (R := 1) (duties_later Y A _))
  isplitr; · iapply (inv_cell Y A K c a k); iexact HI
  iexact Ha

theorem close_bar (K : GSem nD τ sig → ℕ) (c : Dev nD) :
    iprop(invs Y A K ∗ atPos ER (barCell c) 1 ∅ 0) ⊢ (|={Set.univ}=> semVal (barCell c) 0 : sProp 𝕄) := by
  iintro ⟨#HI, Ha⟩
  iapply (Rounds.cell_close ER (rd Y A) (g := barCell c) (Set.mem_univ (K (barCell c))) id (R := 1) (duties_later Y A _))
  isplitr; · iapply (inv_bar Y A K c); iexact HI
  iexact Ha

theorem open_k (K : GSem nD τ sig → ℕ) (c : Dev nD) (k : Fin 3) :
    iprop(invs Y A K ∗ (tok (F := F) c k ∗ semsK (F := F) c k)) ⊢ (|={Set.univ}=> opn (F := F) c k : sProp 𝕄) := by
  unfold tok semsK opn
  iintro ⟨#HI, ⟨#Hr, Ht, Ho0, Ho1, Ho2, Ho3, Ht0, Ht1, Ht2, Ht3, Hc1, Hc3⟩, Hs0, Hs1, Hs2, Hs3⟩
  imod (open_cell Y A K c 0 k) $$ [Ho0 Hs0] with ⟨Ha0, #Hr0⟩
  · isplitr; · iexact HI
    isplitl [Ho0] <;> iassumption
  imod (open_cell Y A K c 1 k) $$ [Ho1 Hs1] with ⟨Ha1, #Hr1⟩
  · isplitr; · iexact HI
    isplitl [Ho1] <;> iassumption
  imod (open_cell Y A K c 2 k) $$ [Ho2 Hs2] with ⟨Ha2, #Hr2⟩
  · isplitr; · iexact HI
    isplitl [Ho2] <;> iassumption
  imod (open_cell Y A K c 3 k) $$ [Ho3 Hs3] with ⟨Ha3, #Hr3⟩
  · isplitr; · iexact HI
    isplitl [Ho3] <;> iassumption
  imodintro
  isplitr; · iexact Hr
  isplitl [Ht]; · iexact Ht
  isplitl [Ha0]; · iexact Ha0
  isplitl [Ha1]; · iexact Ha1
  isplitl [Ha2]; · iexact Ha2
  isplitl [Ha3]; · iexact Ha3
  isplitr; · iexact Hr0
  isplitr; · iexact Hr1
  isplitr; · iexact Hr2
  isplitr; · iexact Hr3
  isplitl [Ht0]; · iexact Ht0
  isplitl [Ht1]; · iexact Ht1
  isplitl [Ht2]; · iexact Ht2
  isplitl [Ht3]; · iexact Ht3
  isplitl [Hc1]; · iexact Hc1
  iexact Hc3

/-- The four cells of one peer, past their one round. -/
def ends (c : Dev nD) (k : Fin 3) : sProp 𝕄 :=
  iprop(atPos ER (cell c 0 k) 1 ∅ 0 ∗ atPos ER (cell c 1 k) 1 ∅ 0 ∗ atPos ER (cell c 2 k) 1 ∅ 0 ∗ atPos ER (cell c 3 k) 1 ∅ 0)

theorem close_k (K : GSem nD τ sig → ℕ) (c : Dev nD) (k : Fin 3) :
    iprop(invs Y A K ∗ ends (F := F) c k) ⊢ (|={Set.univ}=> semsK (F := F) c k : sProp 𝕄) := by
  unfold semsK ends
  iintro ⟨#HI, Ha0, Ha1, Ha2, Ha3⟩
  imod (close_cell Y A K c 0 k) $$ [Ha0] with H0
  · isplitr <;> iassumption
  imod (close_cell Y A K c 1 k) $$ [Ha1] with H1
  · isplitr <;> iassumption
  imod (close_cell Y A K c 2 k) $$ [Ha2] with H2
  · isplitr <;> iassumption
  imod (close_cell Y A K c 3 k) $$ [Ha3] with H3
  · isplitr <;> iassumption
  imodintro
  isplitl [H0]; · iexact H0
  isplitl [H1]; · iexact H1
  isplitl [H2] <;> iassumption

theorem open_all (K : GSem nD τ sig → ℕ) (c : Dev nD) :
    iprop(invs Y A K ∗ bigSep Finset.univ (fun k => tok (F := F) c k) ∗ bigSep Finset.univ (fun k => semsK (F := F) c k))
      ⊢ (|={Set.univ}=> bigSep Finset.univ (fun k => opn (F := F) c k) : sProp 𝕄) := by
  refine BIBase.Entails.trans ?_ ((bigSep_with_persistent (S := Finset.univ) (R := invs Y A K)
    (Φ := fun k => iprop(tok (F := F) c k ∗ semsK (F := F) c k)) fun k _ => open_k Y A K c k).trans (bigSep_fupd _ _))
  iintro ⟨HI, Ht, Hs⟩
  isplitl [HI]; · iexact HI
  iapply (Entails.of_eq (bigSep_sep' (s := Finset.univ) (fun k => tok (F := F) c k) (fun k => semsK (F := F) c k)).symm)
  isplitl [Ht] <;> iassumption

theorem close_all (K : GSem nD τ sig → ℕ) (c : Dev nD) :
    iprop(invs Y A K ∗ bigSep Finset.univ (fun k => ends (F := F) c k))
      ⊢ (|={Set.univ}=> bigSep Finset.univ (fun k => semsK (F := F) c k) : sProp 𝕄) :=
  (bigSep_with_persistent (S := Finset.univ) (R := invs Y A K) (Φ := fun k => ends (F := F) c k) fun k _ => close_k Y A K c k).trans
    (bigSep_fupd _ _)

/-- On entry: the cells opened with the counters the call is given. -/
theorem hopen (c : Dev nD) : iprop(Tk Y A c ∗ Pipeline.ownSems0 osem1 c ∗ levAts L lv) ⊢ (|={Set.univ}=> Xk Y A c : sProp 𝕄) := by
  rw [ownSems1_eq]
  unfold Tk Xk
  iintro ⟨⟨%K, #HI, Hb, Hc, Ht⟩, ⟨HsS, HsK⟩, #Hlev⟩
  imod (open_all Y A K c) $$ [Ht HsK] with Ho
  · isplitr; · iexact HI
    isplitl [Ht] <;> iassumption
  imodintro
  iexists K
  isplitr; · iexact HI
  isplitr; · iexact Hlev
  isplitl [Hb]; · iexact Hb
  isplitl [Hc]; · iexact Hc
  isplitl [Ho]; · iexact Ho
  iexact HsS

/-! ## Whole buffers and their pieces -/

/-- The devices by their distance from device `c`. -/
def around (c : Dev nD) : Fin 4 ≃ Dev nD := Equiv.ofBijective (fun s : Fin 4 => pr c s.val) (by revert c; decide)

theorem cols_eq (c : Dev nD) (f : Vec F S1024x8192 .bf16) :
    (bigSep Finset.univ (fun b : Dev nD => at_ c (yC b) fullShare f) : sProp 𝕄) = at_ c yM fullShare f := by
  unfold at_
  refine (pointsTo_biUnion (ℓ := yM.view.loc (c : Thread nD τ)) Finset.univ (fun b : Dev nD => (yC b).view.set)
    (fun a _ b _ hab => ?_)).symm.trans ?_
  · rw [yC_set, yC_set]
    exact Finset.disjoint_left.mpr fun i ha hb => hab (Fin.ext (((mem_colR a i).mp ha).symm.trans ((mem_colR b i).mp hb)))
  · have : (Finset.univ.biUnion fun b : Dev nD => (yC b).view.set) = yM.view.set := by
      rw [View.set_whole]
      refine Finset.eq_univ_iff_forall.mpr fun i => ?_
      have hi : (i 1).val < 8192 := (i 1).isLt
      exact Finset.mem_biUnion.mpr ⟨⟨(i 1).val / 2048, by show _ < 4; omega⟩, Finset.mem_univ _, by rw [yC_set]; exact (mem_colR _ i).mpr rfl⟩
    rw [this]

theorem planes4 (c : Dev nD) {sp : Space} {e : EltTy} {n R C : ℕ} (M : Memref sig .tc sp (Sh3 n R C) e) (h : (Sh3 1 R C).Squeezes (Sh2 R C))
    (f : Buf (Elt F) (M.view.loc (c : Thread nD τ))) :
    (at_ c M fullShare f : sProp 𝕄) ⊢ bigSep Finset.univ (fun k : Fin n => iprop(∃ f, at_ c (plane M h k) fullShare f)) := by
  rw [← planes_eq c M h f]
  exact bigSep_mono fun k _ => by
    show (_ : sProp 𝕄) ⊢ _
    iintro H; iexists f; iexact H

/-- A buffer held whole is the memref of all of it. -/
theorem whole_at (c : Dev nD) (b : Ref sig .tc) (f : Buf (Elt F) ((c : Thread nD τ).loc b)) :
    (((c : Thread nD τ).loc b) ↦{fullShare} f : sProp 𝕄) = at_ c (Memref.whole b) fullShare f := by
  unfold at_
  rw [View.set_whole]

/-- The exchange's own buffers, whole, before: the products' blocks, the codes, the received codes and maxima, the result. -/
def bufsPre (c : Dev nD) : sProp 𝕄 :=
  iprop(at_ c yM fullShare (Y c) ∗ (∃ f, at_ c yvM fullShare f) ∗ (∃ f, at_ (F := F) c qsM fullShare f) ∗ (∃ f, at_ (F := F) c qrM fullShare f)
    ∗ (∃ f, at_ c arM fullShare f) ∗ (∃ f, at_ (F := F) c qaM fullShare f))
/-- And after. -/
def bufsPost (c : Dev nD) : sProp 𝕄 :=
  iprop(at_ c yM fullShare (Y c) ∗ at_ c yvM fullShare (yvT Y c) ∗ at_ (F := F) c qsM fullShare (qsT Y A c) ∗ at_ (F := F) c qrM fullShare (qrT Y A c)
    ∗ at_ c arM fullShare (arT A c) ∗ at_ (F := F) c qaM fullShare (qaT Y A c))

theorem split_pre (c : Dev nD) :
    iprop(bufsPre Y c ∗ bigSep Finset.univ (fun k => opn (F := F) c k) ∗ bigSep Finset.univ (fun s => semsS (F := F) c s))
      ⊢ iprop(bigSep Finset.univ (fun k : Fin 3 => preK (F := F) c k) ∗ bigSep Finset.univ (fun s : Fin 4 => preS Y c s)) := by
  have hK : iprop(bigSep Finset.univ (fun k => opn (F := F) c k) ∗ bigSep Finset.univ (fun k : Fin 3 => iprop(∃ f, arP (F := F) c k f)) ∗ bigSep Finset.univ (fun k : Fin 3 => iprop(∃ f, qrP (F := F) c k f)))
      ⊢ bigSep Finset.univ (fun k : Fin 3 => preK (F := F) c k) := by
    rw [← bigSep_sep', ← bigSep_sep']
    refine bigSep_mono fun k _ => ?_
    show (_ : sProp 𝕄) ⊢ _
    unfold opn preK
    iintro ⟨⟨H1, H2, H3, H4, H5, H6, H7, H8, H9, H10, H11, H12, H13, H14, H15, H16⟩, H17, H18⟩
    iframe ∗
  have hS : iprop(bigSep Finset.univ (fun s : Fin 4 => yP Y c (pr c s.val)) ∗ bigSep Finset.univ (fun s : Fin 4 => iprop(∃ f, yvP (F := F) c s f))
        ∗ bigSep Finset.univ (fun s : Fin 4 => iprop(∃ f, qsP (F := F) c s f)) ∗ bigSep Finset.univ (fun s : Fin 4 => iprop(∃ f, qaP (F := F) c (pr c s.val) f))
        ∗ bigSep Finset.univ (fun s => semsS (F := F) c s))
      ⊢ bigSep Finset.univ (fun s : Fin 4 => preS Y c s) := by
    rw [← bigSep_sep', ← bigSep_sep', ← bigSep_sep', ← bigSep_sep']
    exact bigSep_mono fun s _ => by
      show (_ : sProp 𝕄) ⊢ _
      exact .rfl
  unfold bufsPre
  iintro ⟨⟨Hy, ⟨%f1, Hyv⟩, ⟨%f2, Hqs⟩, ⟨%f3, Hqr⟩, ⟨%f4, Har⟩, ⟨%f5, Hqa⟩⟩, Ho, Hs⟩
  isplitl [Ho Har Hqr]
  · iapply hK
    isplitl [Ho]; · iexact Ho
    isplitl [Har]; · iapply (planes4 (n := 3) (R := 8) (C := 128) c arM squeezes_S1x8x128_S8x128 f4); iexact Har
    iapply (planes4 (n := 3) (R := 1024) (C := 2048) c qrM squeezes_S1x1024x2048_S1024x2048 f3); iexact Hqr
  · iapply hS
    isplitl [Hy]
    · iapply (Entails.of_eq ((cols_eq c (Y c)).symm.trans (bigSep_univ_equiv (around c) (fun b : Dev nD => (yP Y c b : sProp 𝕄))))); iexact Hy
    isplitl [Hyv]; · iapply (planes4 (n := 4) (R := 1024) (C := 2048) c yvM squeezes_S1x1024x2048_S1024x2048 f1); iexact Hyv
    isplitl [Hqs]; · iapply (planes4 (n := 4) (R := 1024) (C := 2048) c qsM squeezes_S1x1024x2048_S1024x2048 f2); iexact Hqs
    isplitl [Hqa]
    · iapply (Entails.of_eq (bigSep_univ_equiv (around c) (fun b : Dev nD => (iprop(∃ f, qaP (F := F) c b f) : sProp 𝕄))))
      iapply (planes4 (n := 4) (R := 1024) (C := 2048) c qaM squeezes_S1x1024x2048_S1024x2048 f5); iexact Hqa
    iexact Hs

theorem join_post (c : Dev nD) :
    iprop(at_ c arM fullShare (arT A c) ∗ bigSep Finset.univ (fun k : Fin 3 => postK Y A c k) ∗ bigSep Finset.univ (fun s : Fin 4 => postS Y A c s))
      ⊢ iprop(bufsPost Y A c ∗ bigSep Finset.univ (fun k => ends (F := F) c k) ∗ bigSep Finset.univ (fun s => semsS (F := F) c s)) := by
  have hK : bigSep Finset.univ (fun k : Fin 3 => postK Y A c k)
      ⊢ iprop(bigSep Finset.univ (fun k => ends (F := F) c k) ∗ bigSep Finset.univ (fun k : Fin 3 => qrP (F := F) c k (qrT Y A c))) := by
    rw [← bigSep_sep']
    refine bigSep_mono fun k _ => ?_
    show (_ : sProp 𝕄) ⊢ _
    unfold ends postK
    iintro ⟨H1, H2, H3, H4, H5⟩
    iframe ∗
  have hS : bigSep Finset.univ (fun s : Fin 4 => postS Y A c s)
      ⊢ iprop(bigSep Finset.univ (fun s : Fin 4 => yP Y c (pr c s.val)) ∗ bigSep Finset.univ (fun s : Fin 4 => yvP c s (yvT Y c))
        ∗ bigSep Finset.univ (fun s : Fin 4 => qsP (F := F) c s (qsT Y A c)) ∗ bigSep Finset.univ (fun s : Fin 4 => qaP (F := F) c (pr c s.val) (qaT Y A c))
        ∗ bigSep Finset.univ (fun s => semsS (F := F) c s)) := by
    rw [← bigSep_sep', ← bigSep_sep', ← bigSep_sep', ← bigSep_sep']
    exact bigSep_mono fun s _ => by
      show (_ : sProp 𝕄) ⊢ _
      exact .rfl
  unfold bufsPost
  iintro ⟨Har, HK, HS⟩
  ihave HK' := hK $$ HK
  icases HK' with ⟨He, Hqr⟩
  ihave HS' := hS $$ HS
  icases HS' with ⟨Hy, Hyv, Hqs, Hqa, Hs⟩
  isplitr [He Hs]; swap; · isplitl [He] <;> iassumption
  isplitl [Hy]
  · iapply (Entails.of_eq ((cols_eq c (Y c)).symm.trans (bigSep_univ_equiv (around c) (fun b : Dev nD => (yP Y c b : sProp 𝕄)))).symm); iexact Hy
  isplitl [Hyv]; · iapply (Entails.of_eq (planes_eq (n := 4) (R := 1024) (C := 2048) c yvM squeezes_S1x1024x2048_S1024x2048 (yvT Y c))); iexact Hyv
  isplitl [Hqs]; · iapply (Entails.of_eq (planes_eq (n := 4) (R := 1024) (C := 2048) c qsM squeezes_S1x1024x2048_S1024x2048 (qsT Y A c))); iexact Hqs
  isplitl [Hqr]; · iapply (Entails.of_eq (planes_eq (n := 3) (R := 1024) (C := 2048) c qrM squeezes_S1x1024x2048_S1024x2048 (qrT Y A c))); iexact Hqr
  isplitl [Har]; · iexact Har
  iapply (Entails.of_eq (planes_eq (n := 4) (R := 1024) (C := 2048) c qaM squeezes_S1x1024x2048_S1024x2048 (qaT Y A c)))
  iapply (Entails.of_eq (bigSep_univ_equiv (around c) (fun b : Dev nD => (qaP (F := F) c b (qaT Y A c) : sProp 𝕄))).symm)
  iexact Hqa

/-! ## The run, whole buffers in and out, the cells closed -/

def callPre (c : Dev nD) : sProp 𝕄 :=
  iprop(Xk Y A c ∗ ow c (O₀ c) ∗ aP A c fullShare ∗ (∃ f, at_ c gM fullShare f) ∗ bufsPre Y c)
def callPost (c : Dev nD) : sProp 𝕄 :=
  iprop(Pipeline.ownSems0 osem1 c ∗ Yk (F := F) c ∗ ow c 0 ∗ aP A c fullShare ∗ at_ c gM fullShare (gT A c) ∗ bufsPost Y A c)

theorem call_run (c : Dev nD) (Kt : PUnit → sProp 𝕄) :
    iprop(callPre Y A c ∗ (callPost Y A c -∗ Kt ⟨⟩))
      ⊢ wp frame (wpE (defs₀ (F := F)) 𝒱₀ c none) Set.univ
        (cc1_body yM (Memref.isWhole_whole _) aM (Memref.isWhole_whole _) qaM (Memref.isWhole_whole _) gM (Memref.isWhole_whole _)
          yvM (Memref.isWhole_whole _) qsM (Memref.isWhole_whole _) qrM (Memref.isWhole_whole _) arM (Memref.isWhole_whole _)
          cc1_scratch4 cc1_scratch5 cc1_scratch6 cc1_scratch7 cc1_scratch8 cc1_scratch9) Kt := by
  refine BIBase.Entails.trans ?_ (wp_fupd _ _ _ _ _)
  unfold callPre Xk
  iintro ⟨⟨⟨%K, #HI, #Hlev, Hb, Hc, Ho, Hs⟩, HO, Ha, Hg, Hbufs⟩, Hk⟩
  iapply (talk_run Y A K c _)
  isplitr; · iexact HI
  isplitr; · iexact Hlev
  isplitr [Hk]
  · unfold talkPre
    isplitl [HO]; · iexact HO
    isplitl [Hb]; · iexact Hb
    isplitl [Hc]; · iexact Hc
    isplitl [Ha]; · iexact Ha
    isplitl [Hg]; · iexact Hg
    iapply (split_pre Y c)
    isplitl [Hbufs]; · iexact Hbufs
    isplitl [Ho] <;> iassumption
  unfold talkPost
  iintro ⟨HO, Hb, Ha, Hg, Har, HK, HS⟩
  ihave HJ := (join_post Y A c) $$ [Har HK HS]
  · isplitl [Har]; · iexact Har
    isplitl [HK] <;> iassumption
  icases HJ with ⟨Hbufs, He, Hs⟩
  imod (close_bar Y A K c) $$ [Hb] with Hb
  · isplitr <;> iassumption
  imod (close_all Y A K c) $$ [He] with Hc
  · isplitr <;> iassumption
  imodintro
  iapply Hk
  unfold callPost Yk
  rw [ownSems1_eq]
  isplitl [Hs Hc]; · isplitl [Hs] <;> iassumption
  isplitl [Hb]; · iexact Hb
  isplitl [HO]; · iexact HO
  isplitl [Ha]; · iexact Ha
  isplitl [Hg]; · iexact Hg
  iexact Hbufs

end

end Cert.KernelIdeal.Talk
-- ==== Proof.ExchangeDat.lean ====
/-
  The exchange's call, as the proof data and the body obligation of its pipeline: one point, the maximum's window staged in,
  the common maximum's window staged out, the product and the codes addressed by the body itself.
-/
module

public import proofs.«01_k».proof.Proof.Exchange

@[expose] public section

noncomputable section

namespace Cert.KernelIdeal.Talk

open Cert.KernelIdeal Cert.KernelIdeal.Gen Cert.KernelIdeal.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-- The buffers the body addresses itself: the product and the codes. -/
def Hs : Finset (DevRef τ sig) := {Proc.devRef .tc main_v1_0, Proc.devRef .tc main_v2_0}

theorem held_Hs (c : Dev nD) (W : Valuation τ sig (Elt F)) : (StableHlo.held (c : Thread nD τ) Hs W : sProp 𝕄)
    = iprop(at_ c yM fullShare (W (Proc.devRef .tc main_v1_0)) ∗ at_ (F := F) c qaM fullShare (W (Proc.devRef .tc main_v2_0))) := by
  rw [← whole_at c main_v1_0, ← whole_at c main_v2_0]
  unfold StableHlo.held
  rw [bigSep_eq_bigSepL_of_eq [Proc.devRef .tc main_v1_0, Proc.devRef .tc main_v2_0] (by decide) (by decide)]
  rfl

/-- A buffer owned through its whole memref, and held at its contents: one and the same. -/
theorem owns_at (c : Dev nD) (b : Ref sig .tc) (x : Buf (Elt F) ((c : Thread nD τ).loc b)) :
    (owns (c : Thread nD τ) (Memref.whole b) fullShare x : sProp 𝕄) ⊢ at_ c (Memref.whole b) fullShare x := by
  unfold owns at_
  iintro ⟨%f, %hf, H⟩
  rw [View.read_whole] at hf
  subst hf
  iexact H

theorem at_owns (c : Dev nD) (b : Ref sig .tc) (x : Buf (Elt F) ((c : Thread nD τ).loc b)) :
    (at_ c (Memref.whole b) fullShare x : sProp 𝕄) ⊢ owns (c : Thread nD τ) (Memref.whole b) fullShare x := by
  unfold owns at_
  iintro H
  iexists x
  isplitr; · ipureintro; exact View.read_whole _ _
  iexact H

/-- A buffer held whole, at anything. -/
abbrev anyB (c : Dev nD) (b : Ref sig .tc) : sProp 𝕄 :=
  iprop(∃ f : Buf (Elt F) ((c : Thread nD τ).loc b), ((c : Thread nD τ).loc b) ↦{fullShare} f)

/-- The scoped buffers the exchange never touches. -/
def others (c : Dev nD) : sProp 𝕄 :=
  iprop(anyB c cc0_stg0_0
    ∗ anyB c cc0_stg1_0
    ∗ anyB c cc0_stg1_1
    ∗ anyB c cc0_stg2_0
    ∗ anyB c cc0_stg2_1
    ∗ anyB c cc0_stg3_0
    ∗ anyB c cc0_scratch1
    ∗ anyB c cc2_stg0_0
    ∗ anyB c cc2_stg0_1
    ∗ anyB c cc2_stg1_0
    ∗ anyB c cc2_stg2_0
    ∗ anyB c cc2_stg2_1
    ∗ anyB c cc0_scratch0)

theorem whole_in (c : Dev nD) (b : Ref sig .tc) :
    (iprop(∃ f : Buf (Elt F) ((c : Thread nD τ).loc b), ((c : Thread nD τ).loc b) ↦{fullShare} f) : sProp 𝕄)
      ⊢ iprop(∃ f, at_ c (Memref.whole b) fullShare f) := by
  iintro ⟨%f, H⟩
  iexists f
  rw [← whole_at]
  iexact H

theorem whole_out (c : Dev nD) (b : Ref sig .tc) (f : Buf (Elt F) ((c : Thread nD τ).loc b)) :
    at_ c (Memref.whole b) fullShare f ⊢ (iprop(∃ f : Buf (Elt F) ((c : Thread nD τ).loc b), ((c : Thread nD τ).loc b) ↦{fullShare} f) : sProp 𝕄) := by
  iintro H
  iexists f
  rw [whole_at]
  iexact H

/-- The scoped buffers no window stages: the exchange's four, at anything, and the others. -/
theorem rest_in (c : Dev nD) : (Pipeline.scopedRest (Ix := Unit) (Name := ℕ) (U := UU) (Lvl := ℕ) (Val := Elt F) spec1 c : sProp 𝕄)
    ⊢ iprop((∃ f, at_ c yvM fullShare f) ∗ (∃ f, at_ (F := F) c qsM fullShare f) ∗ (∃ f, at_ (F := F) c qrM fullShare f) ∗ (∃ f, at_ c arM fullShare f)
      ∗ others (F := F) c) := by
  rw [scopedRest1_eq]
  unfold others
  iintro ⟨H1, H2, H3, H4, H5, H6, H7, H8, H9, H10, H11, H12, H13, H14, H15, H16, H17⟩
  isplitl [H8]; · iapply (whole_in c cc1_scratch0); iexact H8
  isplitl [H9]; · iapply (whole_in c cc1_scratch1); iexact H9
  isplitl [H10]; · iapply (whole_in c cc1_scratch2); iexact H10
  isplitl [H11]; · iapply (whole_in c cc1_scratch3); iexact H11
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H12]; · iexact H12
  isplitl [H13]; · iexact H13
  isplitl [H14]; · iexact H14
  isplitl [H15]; · iexact H15
  isplitl [H16]; · iexact H16
  iexact H17

theorem rest_out (c : Dev nD) (f1 f2 f3 f4) :
    iprop(at_ c yvM fullShare f1 ∗ at_ (F := F) c qsM fullShare f2 ∗ at_ (F := F) c qrM fullShare f3 ∗ at_ c arM fullShare f4 ∗ others (F := F) c)
    ⊢ (Pipeline.scopedRest (Ix := Unit) (Name := ℕ) (U := UU) (Lvl := ℕ) (Val := Elt F) spec1 c : sProp 𝕄) := by
  rw [scopedRest1_eq]
  unfold others
  iintro ⟨H8, H9, H10, H11, H1, H2, H3, H4, H5, H6, H7, H12, H13, H14, H15, H16, H17⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (whole_out c cc1_scratch0 f1); iexact H8
  isplitl [H9]; · iapply (whole_out c cc1_scratch1 f2); iexact H9
  isplitl [H10]; · iapply (whole_out c cc1_scratch2 f3); iexact H10
  isplitl [H11]; · iapply (whole_out c cc1_scratch3 f4); iexact H11
  isplitl [H12]; · iexact H12
  isplitl [H13]; · iexact H13
  isplitl [H14]; · iexact H14
  isplitl [H15]; · iexact H15
  isplitl [H16]; · iexact H16
  iexact H17

/-! ## The proof data -/

variable (W W' : Dev nD → Valuation τ sig (Elt F))

/-- The product as the call finds it. -/
def Yof (c : Dev nD) : Vec F S1024x8192 .bf16 := W c (Proc.devRef .tc main_v1_0)
/-- The device's maximum as its window stages it. -/
def Aof (c : Dev nD) : Vec F S8x128 .f32 := ((cfg1.win 0).blk t1_0).view.read (Elt F) (W c (Proc.devRef .tc (Pipeline.arrRef spec1 0)))

/-- The call's invariant before its one point, and after. -/
def ΦA (c : Dev nD) : sProp 𝕄 :=
  iprop(Pipeline.scopedRest (Ix := Unit) (Name := ℕ) (U := UU) (Lvl := ℕ) (Val := Elt F) spec1 c ∗ (∃ r, prngReg c r) ∗ StableHlo.held (c : Thread nD τ) Hs (W c) ∗ Xk (Yof W) (Aof W) c)
def ΦB (c : Dev nD) : sProp 𝕄 :=
  iprop(Pipeline.scopedRest (Ix := Unit) (Name := ℕ) (U := UU) (Lvl := ℕ) (Val := Elt F) spec1 c ∗ (∃ r, prngReg c r) ∗ StableHlo.held (c : Thread nD τ) Hs (W' c) ∗ Pipeline.ownSems0 osem1 c ∗ Yk (F := F) c)

def dat1 (c : Dev nD) : Dat τ (Elt F) Unit ℕ UU ℕ cfg1 c where
  A w := W c (Proc.devRef .tc (Pipeline.arrRef spec1 w))
  after w t := match w with
    | ⟨0, _⟩ => ((cfg1.win 0).blk t).view.read (Elt F) (W c (Proc.devRef .tc (Pipeline.arrRef spec1 0)))
    | ⟨1, _⟩ => (gT (Aof W) c : Vec F S8x128 .f32)
  Φ t := if t.val = 0 then ΦA W c else ΦB W' c
  q _ := fullShare
  owed t := if t.val = 0 then O₀ c else 0

theorem A1_eq (c : Dev nD) (w : Fin cfg1.W) : (dat1 W W' c).A w = W c (Proc.devRef .tc (Pipeline.arrRef spec1 w)) := by
  dsimp only [dat1]
theorem after1_0 (c : Dev nD) (t : Fin cfg1.N) : (dat1 W W' c).after 0 t = ((cfg1.win 0).blk t).view.read (Elt F) (W c (Proc.devRef .tc (Pipeline.arrRef spec1 0))) := by
  dsimp only [dat1]
theorem after1_1 (c : Dev nD) (t : Fin cfg1.N) : (dat1 W W' c).after 1 t = (gT (Aof W) c : Vec F S8x128 .f32) := by
  dsimp only [dat1]

theorem before1_0 (c : Dev nD) (t : Fin cfg1.N) (d) :
    (dat1 W W' c).before 0 t d = ((cfg1.win 0).blk t).view.read (Elt F) (W c (Proc.devRef .tc (Pipeline.arrRef spec1 0))) :=
  ((dat1 W W' c).before_in_eq_fetched 0 rfl (fun _ => rfl) (fun _ _ _ => rfl) (fun t => by rw [after1_0]; unfold Dat.blockOf; rw [A1_eq]; try rfl) t d).trans
    (by unfold Dat.fetched Dat.blockOf; rw [A1_eq]; try rfl)

/-- The one point. -/
def t1 : Fin cfg1.N := t1_0
theorem fin1 (t : Fin cfg1.N) : t = t1 := fin_N1 t

theorem owed1_zero (c : Dev nD) : (dat1 W W' c).owed 0 = O₀ c := by
  show (if (0 : Fin (cfg1.N + 1)).val = 0 then O₀ c else 0) = O₀ c; exact if_pos rfl
theorem owed1_first (c : Dev nD) : (dat1 W W' c).owed t1.castSucc = O₀ c := by
  show (if (t1.castSucc : Fin (cfg1.N + 1)).val = 0 then O₀ c else 0) = O₀ c; exact if_pos rfl
theorem owed1_last (c : Dev nD) : (dat1 W W' c).owed (Fin.last _) = 0 := by
  show (if (Fin.last cfg1.N).val = 0 then O₀ c else 0) = 0
  rw [Fin.val_last, if_neg (by rw [show cfg1.N = 1 from N_1]; decide)]
theorem owed1_succ (c : Dev nD) : (dat1 W W' c).owed t1.succ = 0 := by
  show (if t1.val + 1 = 0 then O₀ c else 0) = 0; exact if_neg (Nat.succ_ne_zero _)
theorem Φ1_zero (c : Dev nD) : (dat1 W W' c).Φ 0 = ΦA W c := by
  show (if (0 : Fin (cfg1.N + 1)).val = 0 then ΦA W c else ΦB W' c) = ΦA W c; exact if_pos rfl
theorem Φ1_first (c : Dev nD) : (dat1 W W' c).Φ t1.castSucc = ΦA W c := by
  show (if (t1.castSucc : Fin (cfg1.N + 1)).val = 0 then ΦA W c else ΦB W' c) = ΦA W c; exact if_pos rfl
theorem Φ1_last (c : Dev nD) : (dat1 W W' c).Φ (Fin.last _) = ΦB W' c := by
  show (if (Fin.last cfg1.N).val = 0 then ΦA W c else ΦB W' c) = ΦB W' c
  rw [Fin.val_last, if_neg (by rw [show cfg1.N = 1 from N_1]; decide)]
theorem Φ1_succ (c : Dev nD) : (dat1 W W' c).Φ t1.succ = ΦB W' c := by
  show (if t1.val + 1 = 0 then ΦA W c else ΦB W' c) = ΦB W' c; exact if_neg (Nat.succ_ne_zero _)

theorem owesAt_intro (c : Dev nD) (t : Fin (cfg1.N + 1)) (O : CellTallies nD τ sig Unit) (h : (dat1 W W' c).owed t = O) :
    (ow c O : sProp 𝕄) ⊢ (dat1 W W' c).owesAt () t := by
  unfold Dat.owesAt Pipeline.owesWithin Dat.bound ow
  rw [h, show (dat1 W W' c).recorded t = Set.univ from rfl]
  iintro ⟨%w, HO⟩; iexists w
  isplitr; · ipureintro; exact fun _ _ => Or.inl trivial
  iexact HO
theorem owesAt_elim (c : Dev nD) (t : Fin (cfg1.N + 1)) (O : CellTallies nD τ sig Unit) (h : (dat1 W W' c).owed t = O) :
    (dat1 W W' c).owesAt () t ⊢ (ow c O : sProp 𝕄) := by
  unfold Dat.owesAt Pipeline.owesWithin ow
  rw [h]
  iintro ⟨%w, -, HO⟩; iexists w; iexact HO

def bodyPre (c : Dev nD) : sProp 𝕄 :=
  iprop((dat1 W W' c).Φ t1.castSucc ∗ (dat1 W W' c).owesAt () t1.castSucc
    ∗ (∃ d, owns (c : Thread nD τ) aM fullShare ((dat1 W W' c).before 0 t1 d))
    ∗ (∃ d, owns (c : Thread nD τ) gM fullShare ((dat1 W W' c).before 1 t1 d)))
def bodyPost (c : Dev nD) : sProp 𝕄 :=
  iprop((dat1 W W' c).Φ t1.succ ∗ (dat1 W W' c).owesAt () t1.succ
    ∗ owns (c : Thread nD τ) aM fullShare ((dat1 W W' c).after 0 t1)
    ∗ owns (c : Thread nD τ) gM fullShare ((dat1 W W' c).after 1 t1))

theorem sound_body (hY : ∀ c, W' c (Proc.devRef .tc main_v1_0) = Yof W c) (hQ : ∀ c, W' c (Proc.devRef .tc main_v2_0) = qaT (Yof W) (Aof W) c) (c : Dev nD) :
    bodyPre W W' c ⊢ wp frame (wpE (defs₀ (F := F)) 𝒱₀ c none) Set.univ (bodyAt1 t1) (fun _ => bodyPost W W' c) := by
  unfold bodyPre bodyPost
  simp only [before1_0]
  rw [Φ1_first, Φ1_succ, after1_0, after1_1]
  unfold ΦA ΦB
  rw [held_Hs, held_Hs, hY, hQ]
  iintro ⟨⟨Hrest, Hp, ⟨Hy, Hqa⟩, HX⟩, HO, ⟨%d0, Ha⟩, ⟨%d1, Hg⟩⟩
  ihave Hr := (rest_in c) $$ Hrest
  icases Hr with ⟨Hyv, Hqs, Hqr, Har, Hoth⟩
  ihave HO := (owesAt_elim W W' c _ _ (owed1_first W W' c)) $$ HO
  iapply (call_run (Yof W) (Aof W) c _)
  isplitr [Hp Hoth]
  · unfold callPre bufsPre
    isplitl [HX]; · iexact HX
    isplitl [HO]; · iexact HO
    isplitl [Ha]; · iapply (owns_at c cc1_stg0_0 (Aof W c)); iexact Ha
    isplitl [Hg]; · iexists _; iapply (owns_at c cc1_stg1_0); iexact Hg
    isplitl [Hy]; · iexact Hy
    isplitl [Hyv]; · iexact Hyv
    isplitl [Hqs]; · iexact Hqs
    isplitl [Hqr]; · iexact Hqr
    isplitl [Har]; · iexact Har
    iexists _; iexact Hqa
  unfold callPost bufsPost
  iintro ⟨Hsems, Hb, HO, Ha, Hg, Hy, Hyv, Hqs, Hqr, Har, Hqa⟩
  isplitr [HO Ha Hg]
  · isplitl [Hyv Hqs Hqr Har Hoth]
    · iapply (rest_out c)
      isplitl [Hyv]; · iexact Hyv
      isplitl [Hqs]; · iexact Hqs
      isplitl [Hqr]; · iexact Hqr
      isplitl [Har]; · iexact Har
      iexact Hoth
    isplitl [Hp]; · iexact Hp
    isplitl [Hy Hqa]; · isplitl [Hy] <;> iassumption
    isplitl [Hsems]; · iexact Hsems
    iexact Hb
  isplitl [HO]; · iapply (owesAt_intro W W' c _ _ (owed1_succ W W' c)); iexact HO
  isplitl [Ha]; · iapply (at_owns c cc1_stg0_0 (Aof W c)); iexact Ha
  iapply (at_owns c cc1_stg1_0 (gT (Aof W) c)); iexact Hg

theorem defs₀_row (t : Fin cfg1.N) :
    defs₀ (F := F) .tc cfg1.body (cfg1.bodyArgs t (cfg1.slots t)) = bodyAt1 t := by
  unfold defs₀; rw [Defs.onTc_tc]

/-- The body obligation. -/
theorem body_obligation (hY : ∀ c, W' c (Proc.devRef .tc main_v1_0) = Yof W c) (hQ : ∀ c, W' c (Proc.devRef .tc main_v2_0) = qaT (Yof W) (Aof W) c) (c : Dev nD) :
    BodyObligation (dat1 W W' c) (defs₀ (F := F)) 𝒱₀ () Set.univ := fun t => by
  obtain rfl := fin1 t
  rw [bigSep_W1, bigSep_W1, defs₀_row]
  exact triple_restated (sound_body W W' hY hQ c) rfl .rfl fun _ => .rfl

end Cert.KernelIdeal.Talk
-- ==== Proof.Deal.lean ====
/-
  The launch of the exchange: the cells allocated, and the rights, tokens and credits dealt so that each device holds what
  it needs towards each of its three peers.
-/
module

public import proofs.«01_k».proof.Proof.Exchange
public import Idealize.ShloMosaic.Lib.Pipeline.Regions
public import Idealize.ShloMosaic.Harness.Basic

@[expose] public section

noncomputable section

namespace Cert.KernelIdeal.Talk

open Cert.KernelIdeal Cert.KernelIdeal.Gen Cert.KernelIdeal.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells are different -/

theorem bar_inj {c c' : Dev nD} (h : barCell c = barCell c') : c = c' := congrArg (fun g : GSem nD τ sig => g.1.1) h
theorem cell_inj {c c' : Dev nD} {a a' : Fin 4} {k k' : Fin 3} (h : cell c a k = cell c' a' k') : c = c' ∧ a = a' ∧ k = k' := by
  have h2 := congrArg (fun g : GSem nD τ sig => kind g.2) h
  dsimp only at h2
  rw [kind_cell, kind_cell] at h2
  have h3 := Option.some.inj h2
  exact ⟨congrArg (fun g : GSem nD τ sig => g.1.1) h, Fin.castSucc_injective _ (congrArg Prod.fst h3), congrArg Prod.snd h3⟩
theorem cell_ne_bar {c c' : Dev nD} {a : Fin 4} {k : Fin 3} : cell c a k ≠ barCell c' := fun h => by
  have h2 := congrArg (fun g : GSem nD τ sig => kind g.2) h
  dsimp only at h2
  rw [kind_cell, kind_bar] at h2
  have h3 : a.castSucc = 4 := congrArg Prod.fst (Option.some.inj h2)
  exact absurd h3 ((by decide : ∀ a : Fin 4, a.castSucc ≠ 4) a)
theorem cell_eq_iff (c c' : Dev nD) (a a' : Fin 4) (k k' : Fin 3) : cell c a k = cell c' a' k' ↔ c = c' ∧ a = a' ∧ k = k' :=
  ⟨cell_inj, fun ⟨h1, h2, h3⟩ => by rw [h1, h2, h3]⟩
theorem bar_eq_iff (c c' : Dev nD) : barCell c = barCell c' ↔ c = c' := ⟨bar_inj, fun h => by rw [h]⟩

theorem disjoint_cells : Disjoint barCells dmaCells := by
  rw [Finset.disjoint_left]
  rintro g h₁ h₂
  obtain ⟨c, -, rfl⟩ := Finset.mem_image.mp h₁
  obtain ⟨p, -, h⟩ := Finset.mem_image.mp h₂
  exact cell_ne_bar h

/-! ## The credit from launch -/

theorem eq_pr_iff (c d : Dev nD) (k : Fin 3) : c = pr d k.val ↔ d = src c k.val := by revert c d k; decide

theorem owed_bar (d c : Dev nD) : O₀ d (barCell c) () = (if d = src c 0 then 1 else 0) + (if d = src c 1 then 1 else 0) + (if d = src c 2 then 1 else 0) := by
  have e := fun k : Fin 3 => eq_pr_iff c d k
  simp only [O₀, Pi.add_apply, Finsupp.add_apply, tallyAt_apply, cell_ne_bar.symm, bar_eq_iff, e, false_and, and_true, if_false]
  simp only [Pi.zero_apply, Finsupp.zero_apply, zero_add]
  show (if d = src c 2 then 1 else 0) + (if d = src c 1 then 1 else 0) + (if d = src c 0 then 1 else 0) = _
  omega

theorem owed_fam1 (d c : Dev nD) (k : Fin 3) : O₀ d (cell c 1 k) () = if d = src c k.val then NA else 0 := by
  have e := fun k : Fin 3 => eq_pr_iff c d k
  have h13 : ¬ ((1 : Fin 4) = 3) := by decide
  simp only [O₀, Pi.add_apply, Finsupp.add_apply, tallyAt_apply, cell_ne_bar, cell_eq_iff, e, h13, false_and, and_false, and_true, true_and, if_false]
  simp only [Pi.zero_apply, Finsupp.zero_apply, zero_add, add_zero]
  fin_cases k <;> simp

theorem owed_fam3 (d c : Dev nD) (k : Fin 3) : O₀ d (cell c 3 k) () = if d = src c k.val then NB else 0 := by
  have e := fun k : Fin 3 => eq_pr_iff c d k
  have h31 : ¬ ((3 : Fin 4) = 1) := by decide
  simp only [O₀, Pi.add_apply, Finsupp.add_apply, tallyAt_apply, cell_ne_bar, cell_eq_iff, e, h31, false_and, and_false, and_true, true_and, if_false]
  simp only [Pi.zero_apply, Finsupp.zero_apply, zero_add, add_zero]
  fin_cases k <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (src c 0) fun _ => 1, Finset.sum_ite_eq' Finset.univ (src c 1) fun _ => 1, Finset.sum_ite_eq' Finset.univ (src c 2) fun _ => 1,
    if_pos (Finset.mem_univ _), if_pos (Finset.mem_univ _), if_pos (Finset.mem_univ _)]

theorem launch_fam1 (c : Dev nD) (k : Fin 3) :
    tallyOn (cell c 1 k) (launchCredit (Pipeline.owing O₀) 0 (cell c 1 k)) = (tallyAt (cell c 1 k) () (amt 1) : CellTallies nD τ sig Unit) := by
  unfold tallyAt; refine congrArg _ (Finsupp.ext fun u => ?_); cases u
  rw [Pipeline.launchCredit_owing, Finsupp.single_eq_same, Finset.sum_congr rfl fun d _ => owed_fam1 d c k,
    Finset.sum_ite_eq' Finset.univ (src c k.val) fun _ => NA, if_pos (Finset.mem_univ _)]
  rfl

theorem launch_fam3 (c : Dev nD) (k : Fin 3) :
    tallyOn (cell c 3 k) (launchCredit (Pipeline.owing O₀) 0 (cell c 3 k)) = (tallyAt (cell c 3 k) () (amt 3) : CellTallies nD τ sig Unit) := by
  unfold tallyAt; refine congrArg _ (Finsupp.ext fun u => ?_); cases u
  rw [Pipeline.launchCredit_owing, Finsupp.single_eq_same, Finset.sum_congr rfl fun d _ => owed_fam3 d c k,
    Finset.sum_ite_eq' Finset.univ (src c k.val) fun _ => NB, if_pos (Finset.mem_univ _)]
  rfl

/-- The receive cells of one device: number, and whether of the codes. -/
def recvSem (p : Fin 3 × Fin 2) : SemLoc sig := .dma (cS (if p.2 = 0 then 1 else 3) p.1)
theorem recvSem_inj : Function.Injective recvSem := by decide
theorem recvSem_ne : ∀ p, recvSem p ≠ .reg barS := by decide

def creds3 (c : Dev nD) : sProp 𝕄 :=
  bigSep Finset.univ (fun k : Fin 3 => iprop(cred (tallyAt (cell c 1 k) () (amt 1)) ∗ cred (tallyAt (cell c 3 k) () (amt 3))))

theorem creds (c : Dev nD) : (Pipeline.launchCred O₀ c : sProp 𝕄) ⊢ iprop(cred (tallyAt (barCell c) () 3) ∗ creds3 (F := F) c) := by
  unfold Pipeline.launchCred
  rw [bigSep_univ_at _ (SemLoc.reg barS), launch_bar]
  refine sep_mono_right ?_
  have hsub : (Finset.univ.image recvSem) ⊆ Finset.univ.erase (SemLoc.reg barS) := fun s hs => by
    obtain ⟨p, -, rfl⟩ := Finset.mem_image.mp hs
    exact Finset.mem_erase.mpr ⟨recvSem_ne p, Finset.mem_univ _⟩
  refine BIBase.Entails.trans (bigSep_subset hsub) ?_
  rw [bigSep_image_of_injOn (recvSem_inj.injOn), bigSep_univ_prod]
  unfold creds3
  refine bigSep_mono fun k _ => ?_
  rw [bigSep_univ_two]
  rw [← launch_fam1, ← launch_fam3]
  exact BI.Entails.refl _

/-! ## The tokens, each to the device that pays with it -/

abbrev P : Type := (Dev nD × Fin 3) ⊕ ((Dev nD × Fin 3) × Fin 4)
def tokAt : P → GSem nD τ sig × ℕ × Fin 3
  | .inl p => (barCell p.1, 0, p.2)
  | .inr p => (cell p.1.1 p.2 p.1.2, 0, 0)
theorem tokAt_inj : Function.Injective tokAt := by
  rintro (⟨c, d⟩ | ⟨⟨c, k⟩, a⟩) (⟨c', d'⟩ | ⟨⟨c', k'⟩, a'⟩) h
  · have h1 : c = c' := bar_inj (congrArg (fun t : GSem nD τ sig × ℕ × Fin 3 => t.1) h)
    have h2 : d = d' := congrArg (fun t : GSem nD τ sig × ℕ × Fin 3 => t.2.2) h
    rw [h1, h2]
  · exact absurd (congrArg (fun t : GSem nD τ sig × ℕ × Fin 3 => t.1) h).symm cell_ne_bar
  · exact absurd (congrArg (fun t : GSem nD τ sig × ℕ × Fin 3 => t.1) h) cell_ne_bar
  · have h' : c = c' ∧ a = a' ∧ k = k' := cell_inj (congrArg (fun t : GSem nD τ sig × ℕ × Fin 3 => t.1) h)
    rw [h'.1, h'.2.1, h'.2.2]
def toks : Finset (GSem nD τ sig × ℕ × Fin 3) := Finset.univ.image tokAt

/-- Device and number, moved to the peer; and the same with the barrier's duty turned round. -/
def toPeer : Dev nD × Fin 3 ≃ Dev nD × Fin 3 := Equiv.ofBijective (fun p => (pr p.1 p.2.val, p.2)) (by decide)
def toPeerRev : Dev nD × Fin 3 ≃ Dev nD × Fin 3 := Equiv.ofBijective (fun p => (pr p.1 p.2.val, p.2.rev)) (by decide)

/-- The tokens device `c` pays with towards its peer `k`. -/
def pays (p : Dev nD × Fin 3) : sProp 𝕄 :=
  iprop(dutyTok ER (barCell (pr p.1 p.2.val)) 0 p.2.rev ∗ dutyTok ER (cell p.1 0 p.2) 0 0 ∗ dutyTok ER (cell (pr p.1 p.2.val) 1 p.2) 0 0
    ∗ dutyTok ER (cell p.1 2 p.2) 0 0 ∗ dutyTok ER (cell (pr p.1 p.2.val) 3 p.2) 0 0)

theorem toks_eq : bigSep toks (fun x => (dutyTok ER x.1 x.2.1 x.2.2 : sProp 𝕄)) = bigSep Finset.univ (fun p => pays (F := F) p) := by
  unfold toks pays
  rw [bigSep_image_of_injOn tokAt_inj.injOn, bigSep_univ_sum, bigSep_univ_prod (β := Fin 4), bigSep_sep', bigSep_sep', bigSep_sep', bigSep_sep']
  have h4 : bigSep Finset.univ (fun p : Dev nD × Fin 3 => bigSep Finset.univ (fun a : Fin 4 => (dutyTok ER (tokAt (.inr (p, a))).1 (tokAt (.inr (p, a))).2.1 (tokAt (.inr (p, a))).2.2 : sProp 𝕄)))
      = iprop(bigSep Finset.univ (fun p : Dev nD × Fin 3 => (dutyTok ER (cell p.1 0 p.2) 0 0 : sProp 𝕄)) ∗ bigSep Finset.univ (fun p : Dev nD × Fin 3 => (dutyTok ER (cell p.1 1 p.2) 0 0 : sProp 𝕄))
        ∗ bigSep Finset.univ (fun p : Dev nD × Fin 3 => (dutyTok ER (cell p.1 2 p.2) 0 0 : sProp 𝕄)) ∗ bigSep Finset.univ (fun p : Dev nD × Fin 3 => (dutyTok ER (cell p.1 3 p.2) 0 0 : sProp 𝕄))) := by
    rw [← bigSep_sep', ← bigSep_sep', ← bigSep_sep']
    exact bigSep_congr fun p _ => bigSep_four (F := F) _
  rw [h4, bigSep_univ_equiv toPeerRev (fun p : Dev nD × Fin 3 => (dutyTok ER (tokAt (.inl p)).1 (tokAt (.inl p)).2.1 (tokAt (.inl p)).2.2 : sProp 𝕄)),
    bigSep_univ_equiv toPeer (fun p : Dev nD × Fin 3 => (dutyTok ER (cell p.1 1 p.2) 0 0 : sProp 𝕄)),
    bigSep_univ_equiv toPeer (fun p : Dev nD × Fin 3 => (dutyTok ER (cell p.1 3 p.2) 0 0 : sProp 𝕄))]
  rfl

/-- The rights to open one peer's four cells. -/
def opens (p : Dev nD × Fin 3) : sProp 𝕄 :=
  iprop(openTok ER (cell p.1 0 p.2) ∗ openTok ER (cell p.1 1 p.2) ∗ openTok ER (cell p.1 2 p.2) ∗ openTok ER (cell p.1 3 p.2))

def swap : (Dev nD × Fin 3) × Fin 4 ≃ Dev nD × Fin 4 × Fin 3 where
  toFun p := (p.1.1, p.2, p.1.2)
  invFun p := ((p.1, p.2.2), p.2.1)
  left_inv _ := rfl
  right_inv _ := rfl

theorem opens_eq : bigSep dmaCells (fun g => (openTok ER g : sProp 𝕄)) = bigSep Finset.univ (fun p => opens (F := F) p) := by
  unfold dmaCells
  rw [bigSep_image_of_injOn (fun p _ p' _ h => by
    obtain ⟨h1, h2, h3⟩ := cell_inj h
    exact Prod.ext h1 (Prod.ext h2 h3)), bigSep_univ_equiv swap, bigSep_univ_prod]
  refine bigSep_congr fun p _ => ?_
  exact bigSep_four (F := F) (fun a : Fin 4 => (openTok ER (cell p.1 a p.2) : sProp 𝕄))

theorem bar_eq (Φ : GSem nD τ sig → sProp 𝕄) : bigSep barCells Φ = bigSep Finset.univ (fun c : Dev nD => Φ (barCell c)) := by
  unfold barCells
  rw [bigSep_image_of_injOn (fun c _ c' _ h => bar_inj h)]

/-! ## The launch -/

section

variable (Y : Dev nD → Vec F S1024x8192 .bf16) (A : Dev nD → Vec F S8x128 .f32)

/-- What all devices may consult: the cells' invariants, and round 0 of every barrier cell reached. -/
def records (K : GSem nD τ sig → ℕ) : sProp 𝕄 := iprop(invs Y A K ∗ bigSep barCells fun g => reached ER g 0)
instance records_persistent (K : GSem nD τ sig → ℕ) : BI.Persistent (records Y A K) := by unfold records; infer_instance

theorem reached_bar (c : Dev nD) : (bigSep barCells fun g => (reached ER g 0 : sProp 𝕄)) ⊢ reached ER (barCell c) 0 :=
  bigSep_elim (Finset.mem_image_of_mem _ (Finset.mem_univ c))

/-- What stays with device `c`. -/
def linear (c : Dev nD) : sProp 𝕄 :=
  iprop(atPos ER (barCell c) 0 ∅ 0 ∗ (bigSep Finset.univ fun k : Fin 3 => opens (F := F) (c, k)) ∗ bigSep Finset.univ fun k : Fin 3 => pays (F := F) (c, k))

theorem tok_intro (K : GSem nD τ sig → ℕ) (c : Dev nD) (k : Fin 3) :
    iprop(records Y A K ∗ (opens (F := F) (c, k) ∗ pays (F := F) (c, k) ∗ (cred (tallyAt (cell c 1 k) () (amt 1)) ∗ cred (tallyAt (cell c 3 k) () (amt 3))))) ⊢ tok (F := F) c k := by
  unfold records opens pays tok
  iintro ⟨⟨-, #Hr⟩, ⟨H0, H1, H2, H3⟩, ⟨Hb, Ht0, Ht1, Ht2, Ht3⟩, Hc1, Hc3⟩
  isplitr; · iapply (reached_bar (F := F) (pr c k.val)); iexact Hr
  isplitl [Hb]; · iexact Hb
  isplitl [H0]; · iexact H0
  isplitl [H1]; · iexact H1
  isplitl [H2]; · iexact H2
  isplitl [H3]; · iexact H3
  isplitl [Ht0]; · iexact Ht0
  isplitl [Ht1]; · iexact Ht1
  isplitl [Ht2]; · iexact Ht2
  isplitl [Ht3]; · iexact Ht3
  isplitl [Hc1] <;> iassumption

theorem Tk_intro (K : GSem nD τ sig → ℕ) (c : Dev nD) :
    iprop(records Y A K ∗ (linear (F := F) c ∗ cred (tallyAt (barCell c) () 3) ∗ creds3 (F := F) c)) ⊢ Tk Y A c := by
  have h : iprop(records Y A K ∗ ((bigSep Finset.univ fun k : Fin 3 => opens (F := F) (c, k)) ∗ (bigSep Finset.univ fun k : Fin 3 => pays (F := F) (c, k)) ∗ creds3 (F := F) c))
      ⊢ bigSep Finset.univ (fun k : Fin 3 => tok (F := F) c k) := by
    unfold creds3
    rw [← bigSep_sep', ← bigSep_sep']
    exact bigSep_with_persistent fun k _ => tok_intro Y A K c k
  unfold linear Tk
  iintro ⟨#HR, ⟨Hb, Ho, Hp⟩, Hc, Hcs⟩
  iexists K
  isplitr
  · unfold records; icases HR with ⟨#HI, -⟩; iexact HI
  isplitl [Hb]; · iexact Hb
  isplitl [Hc]; · iexact Hc
  iapply h
  isplitr; · iexact HR
  isplitl [Ho]; · iexact Ho
  isplitl [Hp] <;> iassumption

/-- A resource held by device 0 alone. -/
def onZero (X : sProp 𝕄) (c : Dev nD) : sProp 𝕄 := if c = 0 then X else iprop(emp)
theorem bigSep_onZero (X : sProp 𝕄) : bigSep Finset.univ (onZero (F := F) X) = X := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

/-- The protocol's launch resource. -/
def G : Dev nD → sProp 𝕄 := onZero (BI.own (ER (launchOf barCells dmaCells toks)))

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What a device carries into the exchange beside its buffers. -/
def E₀ (c : Dev nD) : sProp 𝕄 := iprop((∃ r, prngReg c r) ∗ ow c (O₀ c) ∗ Tk Y A c)
/-- And out of it. -/
def E₁ (c : Dev nD) : sProp 𝕄 := iprop((∃ r, prngReg c r) ∗ ow c 0 ∗ semVal (barCell c) 0)

theorem launch (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E₀ Y A) : sProp 𝕄) := by
  have hcore (c : Dev nD) : iprop(unscopedSems0 c ∗ owes (c : Thread nD τ) (O₀ c) ∅ ∗ Pipeline.launchCred O₀ c ∗ prngReg c (ρ c) ∗ G (F := F) c)
      ⊢ (iprop(((∃ r, prngReg c r) ∗ ow c (O₀ c) ∗ (cred (tallyAt (barCell c) () 3) ∗ creds3 (F := F) c)) ∗ (semVal (barCell c) 0 ∗ G (F := F) c)) : sProp 𝕄) := by
    rw [unscopedSems0_eq]
    unfold ow
    iintro ⟨Hus, HO, Hcr, Hp, HG⟩
    ihave Hc := (creds (F := F) c) $$ Hcr
    isplitr [Hus HG]
    · isplitl [Hp]; · iexists (ρ c); iexact Hp
      isplitl [HO]; · iexists ∅; iexact HO
      iexact Hc
    isplitl [Hus] <;> iassumption
  have hall (K : GSem nD τ sig → ℕ) (c : Dev nD) :
      iprop(records Y A K ∗ (linear (F := F) c ∗ ((∃ r, prngReg c r) ∗ ow c (O₀ c) ∗ (cred (tallyAt (barCell c) () 3) ∗ creds3 (F := F) c)))) ⊢ E₀ Y A c := by
    unfold E₀
    iintro ⟨#HR, Hl, Hp, HO, Hc, Hcs⟩
    isplitl [Hp]; · iexact Hp
    isplitl [HO]; · iexact HO
    iapply (Tk_intro Y A K c)
    isplitr; · iexact HR
    isplitl [Hl]; · iexact Hl
    isplitl [Hc] <;> iassumption
  have hlin : iprop(bigSep barCells (fun g => (atPos ER g 0 ∅ 0 : sProp 𝕄)) ∗ bigSep dmaCells (fun g => (openTok ER g : sProp 𝕄)) ∗ bigSep toks (fun x => (dutyTok ER x.1 x.2.1 x.2.2 : sProp 𝕄)))
      = bigSep Finset.univ (fun c : Dev nD => linear (F := F) c) := by
    rw [bar_eq, opens_eq, toks_eq, bigSep_univ_prod, bigSep_univ_prod, ← bigSep_sep', ← bigSep_sep']
    rfl
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G (F := F) c))
      ⊢ (iprop(bigSep Finset.univ (fun c : Dev nD => iprop((∃ r, prngReg c r) ∗ ow c (O₀ c) ∗ (cred (tallyAt (barCell c) () 3) ∗ creds3 (F := F) c)))
        ∗ bigSep Finset.univ (fun c : Dev nD => semVal (barCell c) 0) ∗ bigSep Finset.univ (fun c : Dev nD => G (F := F) c)) : sProp 𝕄) from by
    rw [← bigSep_sep', ← bigSep_sep']
    exact bigSep_mono fun c _ => hcore c) $$ H
  icases H' with ⟨HB, Hv, HG⟩
  ihave Hu := (show bigSep Finset.univ (fun c : Dev nD => G (F := F) c) ⊢ BI.own (ER (launchOf barCells dmaCells toks)) from
    Entails.of_eq (bigSep_onZero (F := F) (BI.own (ER (launchOf barCells dmaCells toks))))) $$ HG
  imod (Rounds.fund_launch ER (rd Y A) disjoint_cells (fun g _ h => h) toks) $$ [Hv Hu] with ⟨%K, -, #Hinv, #Hr, Hat, Hopen, Htok⟩
  · isplitl [Hv]
    · iapply (Entails.of_eq (bar_eq (F := F) (fun g => semVal g 0)).symm); iexact Hv
    · iexact Hu
  imodintro
  iapply (bigSep_with_persistent (R := records Y A K) (Φ := fun c => iprop(linear (F := F) c ∗ ((∃ r, prngReg c r) ∗ ow c (O₀ c) ∗ (cred (tallyAt (barCell c) () 3) ∗ creds3 (F := F) c)))) fun c _ => hall K c)
  isplitr
  · unfold records invs
    isplitr; · iexact Hinv
    iexact Hr
  iapply (Entails.of_eq (bigSep_sep' (s := Finset.univ) (fun c => linear (F := F) c) (fun c => iprop((∃ r, prngReg c r) ∗ ow c (O₀ c) ∗ (cred (tallyAt (barCell c) () 3) ∗ creds3 (F := F) c)))).symm)
  isplitr [HB]
  · iapply (Entails.of_eq hlin)
    isplitl [Hat]; · iexact Hat
    isplitl [Hopen] <;> iassumption
  · iexact HB

end

end Cert.KernelIdeal.Talk
-- ==== Proof.K0.lean ====
/-
  The product's call: its body run at the first column block and at a later one, and the call's proof data, whose
  invariant is the rounded rows and the running maximum kept in scratch.
-/
module

public import proofs.«01_k».proof.Proof.Gen.Own.KernelIdeal.K2.Frame
public import Idealize.ShloMosaic.Lib.VecWindow

@[expose] public section

noncomputable section

namespace Cert.KernelIdeal.K0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants)

/-- The guard of the first column block, as the body computes it from the grid coordinate. -/
def first (n : ℕ) : BitVec 1 := Scalar.cmpi .ne (Scalar.extui (Scalar.cmpi .eq (BitVec.ofNat 32 n) 0#32) : BitVec 32) 0#32
/-- The guard of every later column block. -/
def later (n : ℕ) : BitVec 1 := Scalar.cmpi .ne (Scalar.extui (Scalar.cmpi .sgt (BitVec.ofNat 32 n) 0#32) : BitVec 32) 0#32

theorem guards : ∀ n : Fin 16, (first n.val = 1#1 ↔ n.val = 0) ∧ (later n.val = 1#1 ↔ n.val ≠ 0) := by decide

set_option maxHeartbeats 1000000 in
theorem run_first (c : Dev nD) (i : grid0.Coords) (h0 : (i 0).val = 0)
    (arg1 : Memref sig .tc .vmem S1024x4096 .f32) (harg1 : arg1.IsWhole) (arg2 : Memref sig .tc .vmem S4096x512 .f32) (harg2 : arg2.IsWhole)
    (arg3 : Memref sig .tc .vmem S1024x512 .bf16) (harg3 : arg3.IsWhole) (arg4 : Memref sig .tc .vmem S8x128 .f32) (harg4 : arg4.IsWhole)
    (arg5 : Memref sig .tc .smem S1x1 .f32) (harg5 : arg5.IsWhole) (arg6 : Memref sig .tc .vmem S1024x4096 .bf16) (harg6 : arg6.IsWhole)
    (x : Vec F S1024x4096 .f32) (w : Vec F S4096x512 .f32) (E : Set ℕ) (K : PUnit → sProp 𝕄) :
    iprop(owns (c : Thread nD τ) arg1 fullShare x ∗ owns (c : Thread nD τ) arg2 fullShare w ∗ (∃ d, owns (c : Thread nD τ) arg3 fullShare d)
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w
            ∗ owns (c : Thread nD τ) arg3 fullShare (k0_pay3 (k0_pay1 x) w) ∗ owns (c : Thread nD τ) arg4 fullShare (k0_pay6 (k0_pay4 (k0_pay1 x) w))
            ∗ owns (c : Thread nD τ) arg5 fullShare (fun _ => k0_pay4 (k0_pay1 x) w) ∗ owns (c : Thread nD τ) arg6 fullShare (k0_pay1 x)) -∗ K ⟨⟩))
      ⊢ wp frame (wpE (defs₀ (F := F)) 𝒱₀ c none) E (cc0_body i arg1 harg1 arg2 harg2 arg3 harg3 arg4 harg4 arg5 harg5 arg6 harg6) K := by
  have g1 : first (i 0).val = 1#1 := by rw [h0]; decide
  have g2 : ¬ later (i 0).val = 1#1 := by rw [h0]; decide
  unfold first at g1; unfold later at g2
  simp only [cc0_body_eq_skeleton]; unfold cc0_body_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, Hk⟩
  obtain rfl := harg1.eq_unread hf1; obtain rfl := harg2.eq_unread hf2
  sl_exec (disch := first | exact g1 | exact g2)
  have e1 : run_first.sl.v3 c arg1 harg1 arg6 x = k0_pay1 x := by
    unfold run_first.sl.v3 run_first.sl.H6_1
    rw [View.readCov_full, View.readAt_full, hf1]
  have e2 : run_first.sl.r_1 c arg1 harg1 arg2 harg2 arg6 x w = k0_pay4 (k0_pay1 x) w := by
    unfold run_first.sl.r_1
    rw [e1, View.readAt_full, hf2]
  unfold run_first.sl.H6_1
  rw [e1, e2]
  sl_step
  iapply Hk
  isplitl [H1]
  · iexists _; isplitr; · ipureintro; exact hf1
    iexact H1
  isplitl [H2]
  · iexists _; isplitr; · ipureintro; exact hf2
    iexact H2
  isplitl [H3]
  · iexists _; isplitr; swap; · iexact H3
    ipureintro; exact (View.read_writes_full _ _ _ _ _).trans (by rw [View.readAt_full, hf2])
  isplitl [H4]
  · iexists _; isplitr; swap; · iexact H4
    ipureintro; exact View.read_writes_full _ _ _ _ _
  isplitl [H5]
  · iexists _; isplitr; swap; · iexact H5
    ipureintro; exact (View.read_writes_full _ _ _ _ _).trans (by rw [View.readAt_full, hf2]; rfl)
  iexists _; isplitr; swap; · iexact H6
  ipureintro; exact (View.read_writes_full _ _ _ _ _).trans (by rw [View.readAt_full, hf1])

set_option maxHeartbeats 1000000 in
theorem run_later (c : Dev nD) (i : grid0.Coords) (h0 : (i 0).val ≠ 0)
    (arg1 : Memref sig .tc .vmem S1024x4096 .f32) (harg1 : arg1.IsWhole) (arg2 : Memref sig .tc .vmem S4096x512 .f32) (harg2 : arg2.IsWhole)
    (arg3 : Memref sig .tc .vmem S1024x512 .bf16) (harg3 : arg3.IsWhole) (arg4 : Memref sig .tc .vmem S8x128 .f32) (harg4 : arg4.IsWhole)
    (arg5 : Memref sig .tc .smem S1x1 .f32) (harg5 : arg5.IsWhole) (arg6 : Memref sig .tc .vmem S1024x4096 .bf16) (harg6 : arg6.IsWhole)
    (x : Vec F S1024x4096 .f32) (w : Vec F S4096x512 .f32) (a : F .f32) (xb : Vec F S1024x4096 .bf16) (E : Set ℕ) (K : PUnit → sProp 𝕄) :
    iprop(owns (c : Thread nD τ) arg1 fullShare x ∗ owns (c : Thread nD τ) arg2 fullShare w ∗ (∃ d, owns (c : Thread nD τ) arg3 fullShare d)
        ∗ (∃ d, owns (c : Thread nD τ) arg4 fullShare d) ∗ owns (c : Thread nD τ) arg5 fullShare (fun _ => a) ∗ owns (c : Thread nD τ) arg6 fullShare xb
        ∗ (iprop(owns (c : Thread nD τ) arg1 fullShare x ∗ owns (c : Thread nD τ) arg2 fullShare w
            ∗ owns (c : Thread nD τ) arg3 fullShare (k0_pay3 xb w) ∗ owns (c : Thread nD τ) arg4 fullShare (k0_pay6 (k0_pay5 xb w a))
            ∗ owns (c : Thread nD τ) arg5 fullShare (fun _ => k0_pay5 xb w a) ∗ owns (c : Thread nD τ) arg6 fullShare xb) -∗ K ⟨⟩))
      ⊢ wp frame (wpE (defs₀ (F := F)) 𝒱₀ c none) E (cc0_body i arg1 harg1 arg2 harg2 arg3 harg3 arg4 harg4 arg5 harg5 arg6 harg6) K := by
  have g1 : ¬ first (i 0).val = 1#1 := fun h => h0 ((guards (i 0)).1.mp h)
  have g2 : later (i 0).val = 1#1 := (guards (i 0)).2.mpr h0
  unfold first at g1; unfold later at g2
  simp only [cc0_body_eq_skeleton]; unfold cc0_body_skel
  unfold owns
  iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
  obtain rfl := harg1.eq_unread hf1; obtain rfl := harg2.eq_unread hf2
  obtain rfl := harg5.eq_unread hf5; obtain rfl := harg6.eq_unread hf6
  sl_exec (disch := first | exact g1 | exact g2)
  have e1 : run_later.sl.r c arg5 harg5 a = a := by
    unfold run_later.sl.r
    exact congrFun ((View.readAt_full _ _ _).trans hf5) _
  have e2 : run_later.sl.r_1 c arg2 harg2 arg5 harg5 arg6 harg6 w a xb = k0_pay5 xb w a := by
    unfold run_later.sl.r_1
    rw [e1, View.readAt_full, View.readAt_full, hf2, hf6]
  rw [e1, e2]
  sl_step
  iapply Hk
  isplitl [H1]
  · iexists _; isplitr; · ipureintro; exact hf1
    iexact H1
  isplitl [H2]
  · iexists _; isplitr; · ipureintro; exact hf2
    iexact H2
  isplitl [H3]
  · iexists _; isplitr; swap; · iexact H3
    ipureintro; exact (View.read_writes_full _ _ _ _ _).trans (by rw [View.readAt_full, View.readAt_full, hf2, hf6])
  isplitl [H4]
  · iexists _; isplitr; swap; · iexact H4
    ipureintro; exact View.read_writes_full _ _ _ _ _
  isplitl [H5]
  · iexists _; isplitr; swap; · iexact H5
    ipureintro; exact (View.read_writes_full _ _ _ _ _).trans (by rw [View.readAt_full, View.readAt_full, hf2, hf6]; rfl)
  iexists _; isplitr; · ipureintro; exact hf6
  iexact H6

/-! ## The proof data -/

variable (V : (c : Dev nD) → (b : Ref sig .tc) → Buf (Elt F) ((c : Thread nD τ).loc b)) (D : Dev nD → CellTallies nD τ sig Ix)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Point `n` of the grid. -/
def pt (n : ℕ) : Fin cfg0.N := ⟨n % 16, by rw [show cfg0.N = 16 from N_0]; exact Nat.mod_lt _ (by decide)⟩

theorem pt_val (t : Fin cfg0.N) : pt t.val = t := Fin.ext (Nat.mod_eq_of_lt (lt_of_lt_of_eq t.isLt N_0))

/-- The rounded operand, kept from the first point on. -/
def xb (c : Dev nD) : Vec F S1024x4096 .bf16 := k0_pay1 (iblk V c 0 (pt 0))
/-- The weights' block at point `n`. -/
def wb (c : Dev nD) (n : ℕ) : Vec F S4096x512 .f32 := iblk V c 1 (pt n)
/-- The running maximum after point `n`. -/
def acc (c : Dev nD) : ℕ → F .f32
  | 0 => k0_pay4 (xb V c) (wb V c 0)
  | n + 1 => k0_pay5 (xb V c) (wb V c (n + 1)) (acc c n)

/-- The scoped buffers the body never touches. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ f : Buf (Elt F) ((c : Thread nD τ).loc cc1_scratch2), ((c : Thread nD τ).loc cc1_scratch2) ↦{fullShare} f)
    ∗ (∃ f : Buf (Elt F) ((c : Thread nD τ).loc cc1_scratch3), ((c : Thread nD τ).loc cc1_scratch3) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ ∃ r, prngReg c r)

abbrev accM : Memref sig .tc .smem S1x1 .f32 := Memref.whole cc0_scratch0
abbrev xbM : Memref sig .tc .vmem S1024x4096 .bf16 := Memref.whole cc0_scratch1

/-- The call's invariant: before the first point the two scratch buffers hold anything; before every later one
    the rounded operand and the running maximum of the points gone by. -/
def Φ (c : Dev nD) (n : ℕ) : sProp 𝕄 :=
  match n with
  | 0 => iprop((∃ d, owns (c : Thread nD τ) xbM fullShare d) ∗ (∃ d, owns (c : Thread nD τ) accM fullShare d) ∗ others (F := F) (Ix := Ix) (U := U) (Lvl := Lvl) c)
  | n + 1 => iprop(owns (c : Thread nD τ) xbM fullShare (xb V c) ∗ owns (c : Thread nD τ) accM fullShare (fun _ => acc V c n) ∗ others (F := F) (Ix := Ix) (U := U) (Lvl := Lvl) c)

theorem Φ_zero (c : Dev nD) : Φ V c 0 = iprop((∃ d, owns (c : Thread nD τ) xbM fullShare d) ∗ (∃ d, owns (c : Thread nD τ) accM fullShare d) ∗ others (F := F) (Ix := Ix) (U := U) (Lvl := Lvl) c) := rfl
theorem Φ_succ (c : Dev nD) (n : ℕ) : Φ V c (n + 1) = iprop(owns (c : Thread nD τ) xbM fullShare (xb V c) ∗ owns (c : Thread nD τ) accM fullShare (fun _ => acc V c n) ∗ others (F := F) (Ix := Ix) (U := U) (Lvl := Lvl) c) := rfl

/-- A scratch buffer held whole is one owned through its whole memref. -/
theorem whole_owns (c : Dev nD) (b : Ref sig .tc) :
    (∃ f : Buf (Elt F) ((c : Thread nD τ).loc b), ((c : Thread nD τ).loc b) ↦{fullShare} f : sProp 𝕄)
      ⊢ iprop(∃ d, owns (c : Thread nD τ) (Memref.whole b) fullShare d) := by
  iintro ⟨%f, H⟩
  iexists f
  unfold owns
  iexists f
  isplitr; · ipureintro; exact View.read_whole _ _
  rw [View.set_whole]
  iexact H

theorem owns_whole (c : Dev nD) (b : Ref sig .tc) (d) :
    (owns (c : Thread nD τ) (Memref.whole b) fullShare d : sProp 𝕄)
      ⊢ iprop(∃ f : Buf (Elt F) ((c : Thread nD τ).loc b), ((c : Thread nD τ).loc b) ↦{fullShare} f) := by
  unfold owns
  iintro ⟨%f, -, H⟩
  iexists f
  rw [View.set_whole]
  iexact H

theorem Φ_in (c : Dev nD) :
    iprop(Pipeline.scopedRest (Ix := Ix) (Name := ℕ) (U := U) (Lvl := Lvl) (Val := Elt F) spec0 c ∗ ∃ r, prngReg c r) ⊢ Φ (U := U) (Lvl := Lvl) (Ix := Ix) V c 0 := by
  rw [scopedRest0_eq]
  unfold Φ others
  iintro ⟨⟨Hx, H1, H2, H3, H4, H5, H6, H7, H8, H9, H10, H11, Ha⟩, Hp⟩
  isplitl [Hx]; · iapply (whole_owns c cc0_scratch1); iexact Hx
  isplitl [Ha]; · iapply (whole_owns c cc0_scratch0); iexact Ha
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact Hp

theorem Φ_out (c : Dev nD) (n : ℕ) :
    Φ (U := U) (Lvl := Lvl) (Ix := Ix) V c (n + 1) ⊢ iprop(Pipeline.scopedRest (Ix := Ix) (Name := ℕ) (U := U) (Lvl := Lvl) (Val := Elt F) spec0 c ∗ ∃ r, prngReg c r) := by
  rw [scopedRest0_eq]
  unfold Φ others
  iintro ⟨Hx, Ha, H1, H2, H3, H4, H5, H6, H7, H8, H9, H10, H11, Hp⟩
  isplitr [Hp]; swap; · iexact Hp
  isplitl [Hx]; · iapply (owns_whole c cc0_scratch1); iexact Hx
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply (owns_whole c cc0_scratch0); iexact Ha

/-- The proof data of the product's call: the arrays as it finds them; after point `t` the products' block and the
    running maximum broadcast; the core owing `D c` throughout. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => (k0_pay3 (xb V c) (wb V c t.val) : Vec F S1024x512 .bf16)
    | ⟨3, _⟩ => (k0_pay6 (acc V c t.val) : Vec F S8x128 .f32)
  Φ t := Φ (Ix := Ix) (U := U) (Lvl := Lvl) V c t.val
  q _ := fullShare
  owed _ := D c

variable (ι : Ix)

local notation "𝕕" => dat (Ix := Ix) (U := U) (Lvl := Lvl) V D

theorem A_eq (c : Dev nD) (w : Fin cfg0.W) : (𝕕 c).A w = V c (Pipeline.arrRef spec0 w) := by
  dsimp only [dat]

theorem after_0 (c : Dev nD) (t : Fin cfg0.N) : (𝕕 c).after 0 t = iblk V c 0 t := by dsimp only [dat]
theorem after_1 (c : Dev nD) (t : Fin cfg0.N) : (𝕕 c).after 1 t = iblk V c 1 t := by dsimp only [dat]
theorem after_2 (c : Dev nD) (t : Fin cfg0.N) : (𝕕 c).after 2 t = (k0_pay3 (xb V c) (wb V c t.val) : Vec F S1024x512 .bf16) := by dsimp only [dat]
theorem after_3 (c : Dev nD) (t : Fin cfg0.N) : (𝕕 c).after 3 t = (k0_pay6 (acc V c t.val) : Vec F S8x128 .f32) := by dsimp only [dat]

/-- Each input's staging buffer holds its block at every point. -/
theorem before_0 (c : Dev nD) (t : Fin cfg0.N) (d) : (𝕕 c).before 0 t d = iblk V c 0 t :=
  ((𝕕 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (𝕕 c).before 1 t d = iblk V c 1 t :=
  ((𝕕 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- Each window's current staging memref at point `t`. -/
abbrev ms_0 (t : Fin cfg0.N) : Memref sig .tc .vmem S1024x4096 .f32 := win0_0.stage (cfg0.slots t 0)
abbrev ms_1 (t : Fin cfg0.N) : Memref sig .tc .vmem S4096x512 .f32 := win0_1.stage (cfg0.slots t 1)
abbrev ms_2 (t : Fin cfg0.N) : Memref sig .tc .vmem S1024x512 .bf16 := win0_2.stage (cfg0.slots t 2)
abbrev ms_3 (t : Fin cfg0.N) : Memref sig .tc .vmem S8x128 .f32 := win0_3.stage (cfg0.slots t 3)

/-- What the body is called with at point `t`, -/
def bodyPre (c : Dev nD) (t : Fin cfg0.N) : sProp 𝕄 :=
  iprop((𝕕 c).Φ t.castSucc ∗ (𝕕 c).owesAt ι t.castSucc
    ∗ (∃ d, owns (c : Thread nD τ) (ms_0 t) fullShare ((𝕕 c).before 0 t d))
    ∗ (∃ d, owns (c : Thread nD τ) (ms_1 t) fullShare ((𝕕 c).before 1 t d))
    ∗ (∃ d, owns (c : Thread nD τ) (ms_2 t) fullShare ((𝕕 c).before 2 t d))
    ∗ (∃ d, owns (c : Thread nD τ) (ms_3 t) fullShare ((𝕕 c).before 3 t d)))

/-- and what it returns. -/
def bodyPost (c : Dev nD) (t : Fin cfg0.N) : sProp 𝕄 :=
  iprop((𝕕 c).Φ t.succ ∗ (𝕕 c).owesAt ι t.succ
    ∗ owns (c : Thread nD τ) (ms_0 t) fullShare ((𝕕 c).after 0 t)
    ∗ owns (c : Thread nD τ) (ms_1 t) fullShare ((𝕕 c).after 1 t)
    ∗ owns (c : Thread nD τ) (ms_2 t) fullShare ((𝕕 c).after 2 t)
    ∗ owns (c : Thread nD τ) (ms_3 t) fullShare ((𝕕 c).after 3 t))

theorem coord (t : Fin cfg0.N) : (grid0.coords t 0).val = t.val := by
  revert t
  decide

theorem Φ_at (c : Dev nD) (t : Fin (cfg0.N + 1)) : (𝕕 c).Φ t = Φ V c t.val := rfl

/-- The body at any point. -/
theorem sound_body (c : Dev nD) (t : Fin cfg0.N) :
    bodyPre (U := U) (Lvl := Lvl) V D ι c t ⊢ wp frame (wpE (defs₀ (F := F)) 𝒱₀ c none) Set.univ (bodyAt0 t) (fun _ => bodyPost (U := U) (Lvl := Lvl) V D ι c t) := by
  unfold bodyPre bodyPost bodyAt0
  simp only [before_0, before_1]
  rw [show (𝕕 c).owesAt ι t.succ = (𝕕 c).owesAt ι t.castSucc from rfl, after_0, after_1, after_2, after_3, Φ_at, Φ_at,
    show t.succ.val = t.val + 1 from rfl, show t.castSucc.val = t.val from rfl]
  rcases hn : t.val with _ | n
  · have ht : pt 0 = t := by rw [← pt_val t, hn]
    have hw : wb V c 0 = iblk V c 1 t := by unfold wb; rw [ht]
    have hx : xb V c = k0_pay1 (iblk V c 0 t) := by unfold xb; rw [ht]
    rw [Φ_zero, Φ_succ, show acc V c 0 = k0_pay4 (xb V c) (wb V c 0) from rfl, hw, hx]
    iintro ⟨⟨H6, H5, Hr⟩, Ho, ⟨%d0, H1⟩, ⟨%d1, H2⟩, ⟨%d2, H3⟩, ⟨%d3, H4⟩⟩
    iapply (run_first 𝒱₀ c (grid0.coords t) ((coord t).trans hn) _ _ _ _ _ _ _ _ _ _ _ _ (iblk V c 0 t) (iblk V c 1 t) Set.univ _)
    isplitl [H1]; · iexact H1
    isplitl [H2]; · iexact H2
    isplitl [H3]; · iexists _; iexact H3
    isplitl [H4]; · iexists _; iexact H4
    isplitl [H5]; · iexact H5
    isplitl [H6]; · iexact H6
    iintro ⟨H1, H2, H3, H4, H5, H6⟩
    isplitl [Hr H5 H6]
    · isplitl [H6]; · iexact H6
      isplitl [H5]; · iexact H5
      iexact Hr
    isplitl [Ho]; · iexact Ho
    isplitl [H1]; · iexact H1
    isplitl [H2]; · iexact H2
    isplitl [H3]; · iexact H3
    iexact H4
  · have ht : pt (n + 1) = t := by rw [← pt_val t, hn]
    have hw : wb V c (n + 1) = iblk V c 1 t := by unfold wb; rw [ht]
    rw [Φ_succ, Φ_succ, show acc V c (n + 1) = k0_pay5 (xb V c) (wb V c (n + 1)) (acc V c n) from rfl, hw]
    iintro ⟨⟨H6, H5, Hr⟩, Ho, ⟨%d0, H1⟩, ⟨%d1, H2⟩, ⟨%d2, H3⟩, ⟨%d3, H4⟩⟩
    iapply (run_later 𝒱₀ c (grid0.coords t) (by rw [coord t, hn]; exact Nat.succ_ne_zero _) _ _ _ _ _ _ _ _ _ _ _ _ (iblk V c 0 t) (iblk V c 1 t) (acc V c n) (xb V c) Set.univ _)
    isplitl [H1]; · iexact H1
    isplitl [H2]; · iexact H2
    isplitl [H3]; · iexists _; iexact H3
    isplitl [H4]; · iexists _; iexact H4
    isplitl [H5]; · iexact H5
    isplitl [H6]; · iexact H6
    iintro ⟨H1, H2, H3, H4, H5, H6⟩
    isplitl [Hr H5 H6]
    · isplitl [H6]; · iexact H6
      isplitl [H5]; · iexact H5
      iexact Hr
    isplitl [Ho]; · iexact Ho
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.KernelIdeal.K0

end
-- ==== Proof.Run.lean ====
/-
  The whole run: the product's call, the exchange's call and the final scaling's call, one after the other, over any float
  values. Its end says what each device's result holds and that every semaphore counter is back at zero.
-/
module

public import proofs.«01_k».proof.Proof.ExchangeDat
public import proofs.«01_k».proof.Proof.Deal
public import proofs.«01_k».proof.Proof.K0
public import proofs.«01_k».proof.Proof.Gen.Own.KernelIdeal.RegionsD
public import Idealize.ShloMosaic.Lib.Pipeline.RegionTalk
public import Idealize.ShloMosaic.Lib.Pipeline.ValueKit.Geometry

@[expose] public section

noncomputable section

namespace Cert.KernelIdeal.Talk

open Cert.KernelIdeal Cert.KernelIdeal.Gen Cert.KernelIdeal.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg RegionSeg)

variable {F : FTy → Type} [FloatOps F]

local notation "𝕄" => MT nD τ sig Unit (Elt F) ℕ UU ℕ

/-! ## What each call leaves -/

variable (m : (ℓ : Loc nD τ sig) → Buf (Elt F) ℓ)

/-- The contents the product's call starts from. -/
abbrev Vb (c : Dev nD) (b : Ref sig .tc) : Buf (Elt F) ((c : Thread nD τ).loc b) := V0 m c (Proc.devRef .tc b)

/-- The product's call. -/
def dat0 (c : Dev nD) : Dat τ (Elt F) Unit ℕ UU ℕ cfg0 c := K0.dat (Vb m) O₀ c

/-- After the product's call. -/
def U1 (c : Dev nD) : Valuation τ sig (Elt F) :=
  Function.update (Function.update (V0 m c) (Proc.devRef .tc main_v1_0) ((dat0 m c).arrAt 2 cfg0.N)) (Proc.devRef .tc main_v1_1) ((dat0 m c).arrAt 3 cfg0.N)
/-- After the exchange's. -/
def U2 (c : Dev nD) : Valuation τ sig (Elt F) :=
  Function.update (Function.update (U1 m c) (Proc.devRef .tc main_v2_1) (gT (Aof (U1 m)) c : Vec F S8x128 .f32))
    (Proc.devRef .tc main_v2_0) (qaT (Yof (U1 m)) (Aof (U1 m)) c : Vec F S4x1024x2048 .i8)
/-- The final scaling's call. -/
def dat2 (c : Dev nD) : Dat τ (Elt F) Unit ℕ UU ℕ cfg2 c := Own.K2.dat 𝒱₀ (fun c b => U2 m c (Proc.devRef .tc b)) (fun _ => 0) c
def U3 (c : Dev nD) : Valuation τ sig (Elt F) :=
  Function.update (U2 m c) (Proc.devRef .tc main_v3) ((dat2 m c).arrAt 2 cfg2.N)

def outs : Outs (F := F) := fun j r c => match j with
  | 1 => U1 m c (Proc.devRef .tc r)
  | 2 => U2 m c (Proc.devRef .tc r)
  | _ => U3 m c (Proc.devRef .tc r)

theorem V1_eq : V1 m (outs m) = U1 m := by
  funext c
  show Function.update (Function.update (V0 m c) _ (U1 m c (Proc.devRef .tc main_v1_0))) _ (U1 m c (Proc.devRef .tc main_v1_1)) = _
  unfold U1
  rw [Function.update_self, Function.update_of_ne (by decide), Function.update_self]
theorem V2_eq : V2 m (outs m) = U2 m := by
  have h10 : ∀ c, U2 m c (Proc.devRef .tc main_v1_0) = U1 m c (Proc.devRef .tc main_v1_0) := fun c => by
    unfold U2; rw [Function.update_of_ne (by decide), Function.update_of_ne (by decide)]
  funext c
  show Function.update (Function.update (Function.update (V1 m (outs m) c) _ (U2 m c (Proc.devRef .tc main_v2_1))) _ (U2 m c (Proc.devRef .tc main_v1_0))) _ (U2 m c (Proc.devRef .tc main_v2_0)) = _
  rw [V1_eq, h10]
  unfold U2
  rw [Function.update_self, Function.update_of_ne (by decide : (Proc.devRef .tc main_v2_1 : DevRef τ sig) ≠ Proc.devRef .tc main_v2_0), Function.update_self]
  congr 1
  refine Function.update_eq_iff.mpr ⟨?_, fun _ _ => rfl⟩
  rw [Function.update_of_ne (by decide)]

theorem U2_self (c : Dev nD) : U2 m c (Proc.devRef .tc main_v2_0) = qaT (Yof (U1 m)) (Aof (U1 m)) c := by
  unfold U2; rw [Function.update_self]
theorem U2_g (c : Dev nD) : U2 m c (Proc.devRef .tc main_v2_1) = (gT (Aof (U1 m)) c : Vec F S8x128 .f32) := by
  unfold U2; rw [Function.update_of_ne (by decide), Function.update_self]
theorem U2_y (c : Dev nD) : U2 m c (Proc.devRef .tc main_v1_0) = Yof (U1 m) c := by
  unfold U2 Yof; rw [Function.update_of_ne (by decide), Function.update_of_ne (by decide)]

/-- The exchange's window for the common maximum is written back once, whole. -/
theorem arr1_1 (W W' : Dev nD → Valuation τ sig (Elt F)) (c : Dev nD) : (dat1 W W' c).arrAt 1 cfg1.N = (gT (Aof W) c : Vec F S8x128 .f32) := by
  refine (dat1 W W' c).arrAt_eq_of_after_last 1 t1_0 (by decide +kernel) _ fun j => ?_
  rw [after1_1]
  rfl

/-- The proof data of the two calls written out here. -/
def pd : (p : Fin 3) → (c : Dev nD) → Dat τ (Elt F) Unit ℕ UU ℕ (cfgs p) c
  | ⟨0, _⟩ => dat0 m
  | ⟨1, _⟩ => dat1 (U1 m) (U2 m)
  | ⟨2, _⟩ => dat2 m

/-- All three. -/
abbrev pdats : (p : Fin 3) → (c : Dev nD) → Dat τ (Elt F) Unit ℕ UU ℕ (cfgs p) c := Own.pdatsD m (outs m) 𝒱₀ (pd m) (fun _ => 0)

/-! ## The calls' records -/

theorem O₀_above (c : Dev nD) : Above 0 (O₀ c) := by
  unfold O₀ OS2 OS1
  exact ((((OA3_above c).mono (by decide)).add (Above.tally 1 rfl (by rw [lv_bar]; decide))).add (Above.tally 1 rfl (by rw [lv_bar]; decide))).add
    (Above.tally 1 rfl (by rw [lv_bar]; decide))

/-- A cell that is no cell of the exchange is at the lowest level. -/
theorem lv_stage0 (c : Dev nD) (w : Fin cfg0.W) (s : Fin (cfg0.win w).nbuf) : lv ((c : Thread nD τ), .dma ((cfg0.win w).sem s)) () = 0 := by
  have h : ∀ (w : Fin cfg0.W) (s : Fin (cfg0.win w).nbuf), lvK (kind (.dma ((cfg0.win w).sem s))) = 0 := by decide
  exact h w s
theorem lv_stage1 (c : Dev nD) (w : Fin cfg1.W) (s : Fin (cfg1.win w).nbuf) : lv ((c : Thread nD τ), .dma ((cfg1.win w).sem s)) () = 0 := by
  have h : ∀ (w : Fin cfg1.W) (s : Fin (cfg1.win w).nbuf), lvK (kind (.dma ((cfg1.win w).sem s))) = 0 := by decide
  exact h w s
theorem lv_stage2 (c : Dev nD) (w : Fin cfg2.W) (s : Fin (cfg2.win w).nbuf) : lv ((c : Thread nD τ), .dma ((cfg2.win w).sem s)) () = 0 := by
  have h : ∀ (w : Fin cfg2.W) (s : Fin (cfg2.win w).nbuf), lvK (kind (.dma ((cfg2.win w).sem s))) = 0 := by decide
  exact h w s

theorem mem_L (c : Dev nD) (sm : SemLoc sig) : () ∈ L ((c : Thread nD τ), sm) := by rw [L_tc]; exact Finset.mem_singleton_self _

theorem above_cut {O : CellTallies nD τ sig Unit} (h : Above 0 O) (g : GSem nD τ sig) (i : Unit) (hg : 0 < O g i) : i ∈ L g ∧ 0 < lv g i := by
  obtain ⟨h1, h2⟩ := h g i hg
  refine ⟨?_, h2⟩
  obtain ⟨⟨c, p⟩, sm⟩ := g
  obtain rfl : p = .tc := h1
  exact mem_L c sm

set_option backward.isDefEq.respectTransparency.types false in
theorem cut0 : Pipeline.LevelCut (pcfgs (F := F)) adm () L lv 0 O₀ (fun _ => 0) :=
  ⟨fun c _ _ => mem_L c _, fun c w s => le_of_eq (lv_stage0 c w s), fun c g i h => above_cut (O₀_above c) g i h⟩
set_option backward.isDefEq.respectTransparency.types false in
theorem cut2 : Pipeline.LevelCut (pcfgs (F := F)) adm () L lv 2 (fun _ => 0) (fun _ => 0) :=
  ⟨fun c _ _ => mem_L c _, fun c w s => le_of_eq (lv_stage2 c w s), fun c g i h => above_cut (Above.zero 0) g i h⟩

/-- What the exchange keeps from launch. -/
abbrev Tk1 (c : Dev nD) : sProp 𝕄 := Tk (Yof (U1 m)) (Aof (U1 m)) c

/-- Beside the held buffers, between the calls. -/
def E : Fin 4 → Dev nD → sProp 𝕄
  | ⟨0, _⟩ => E₀ (Yof (U1 m)) (Aof (U1 m))
  | ⟨1, _⟩ => E₀ (Yof (U1 m)) (Aof (U1 m))
  | ⟨2, _⟩ => E₁
  | ⟨3, _⟩ => E₁

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem arr0_S : Pipeline.arrRefs (τ := τ) spec0 ⊆ Pipeline.ucRefs τ sig := Pipeline.arrRefs_sub_ucRefs spec0 (by decide)
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem arr1_S : Pipeline.arrRefs (τ := τ) spec1 ⊆ Pipeline.ucRefs τ sig := Pipeline.arrRefs_sub_ucRefs spec1 (by decide)

/-- The first call changes its two output arrays alone. -/
theorem rest0 (c : Dev nD) : ∀ b ∈ (Pipeline.ucRefs τ sig) \ Pipeline.arrRefs (τ := τ) spec0, U1 m c b = V0 m c b := fun b hb => by
  have hn : b ∉ Pipeline.arrRefs (τ := τ) spec0 := (Finset.mem_sdiff.mp hb).2
  have h2 : b ≠ Proc.devRef .tc main_v1_0 := by rintro rfl; exact hn (arr0_mem 2)
  have h3 : b ≠ Proc.devRef .tc main_v1_1 := by rintro rfl; exact hn (arr0_mem 3)
  unfold U1
  rw [Function.update_of_ne h3, Function.update_of_ne h2]
/-- The second changes, off its own arrays, the codes alone. -/
theorem rest1 (c : Dev nD) : ∀ b ∈ ((Pipeline.ucRefs τ sig) \ Pipeline.arrRefs (τ := τ) spec1) \ Hs, U2 m c b = U1 m c b := fun b hb => by
  obtain ⟨hb1, hb2⟩ := Finset.mem_sdiff.mp hb
  have hn : b ∉ Pipeline.arrRefs (τ := τ) spec1 := (Finset.mem_sdiff.mp hb1).2
  have h1 : b ≠ Proc.devRef .tc main_v2_1 := by rintro rfl; exact hn (arr1_mem 1)
  have h2 : b ≠ Proc.devRef .tc main_v2_0 := by rintro rfl; exact hb2 (by decide)
  unfold U2
  rw [Function.update_of_ne h2, Function.update_of_ne h1]
theorem Hs_sub : Hs ⊆ (Pipeline.ucRefs τ sig) \ Pipeline.arrRefs (τ := τ) spec1 := by decide

theorem U1_in (c : Dev nD) (b : Ref sig .tc) (h : b ≠ main_v1_0) (h' : b ≠ main_v1_1) : U1 m c (Proc.devRef .tc b) = V0 m c (Proc.devRef .tc b) := by
  unfold U1
  rw [Function.update_of_ne (fun e => h' (Proc.devRef_injective _ e)), Function.update_of_ne (fun e => h (Proc.devRef_injective _ e))]
theorem U1_y (c : Dev nD) : U1 m c (Proc.devRef .tc main_v1_0) = (dat0 m c).arrAt 2 cfg0.N := by
  unfold U1; rw [Function.update_of_ne (by decide), Function.update_self]
theorem U1_a (c : Dev nD) : U1 m c (Proc.devRef .tc main_v1_1) = (dat0 m c).arrAt 3 cfg0.N := by
  unfold U1; rw [Function.update_self]
theorem U2_a (c : Dev nD) : U2 m c (Proc.devRef .tc main_v1_1) = U1 m c (Proc.devRef .tc main_v1_1) := by
  unfold U2; rw [Function.update_of_ne (by decide), Function.update_of_ne (by decide)]

set_option backward.isDefEq.respectTransparency.types false in
/-- The product's call. -/
def reg0 : RegionSeg (pcfgs (F := F)) adm (pdats m) () defs₀ 𝒱₀ L lv 0 :=
  Pipeline.RegionSeg.ofHeld (pcfgs (F := F)) adm (pdats m) () defs₀ 𝒱₀ L lv 0 O₀
    (fun c => iprop(∃ r, prngReg c r)) (fun c => iprop(∃ r, prngReg c r)) launch0.toP rfl
    (fun c => (K0.body_obligation 𝒱₀ (Vb m) O₀ () c).loose) (fun _ _ => rfl) (fun _ => rfl)
    (fun c => (dat0 m c).share_full fun _ => rfl) (fun c => K0.Φ_in (Vb m) c)
    (fun c => K0.Φ_out (Vb m) c 15)
    (fun _ => 0) cut0
    (fun c => iprop(StableHlo.held (c : Thread nD τ) ((Pipeline.ucRefs τ sig) \ Pipeline.arrRefs (τ := τ) spec0) (V0 m c) ∗ Tk1 m c))
    (V0 m) (U1 m) (fun _ _ => rfl)
    (fun c => fun
      | 0 => ((dat0 m c).arrAt_in 0 rfl _).trans (U1_in m c main_arg0 (by decide) (by decide)).symm
      | 1 => ((dat0 m c).arrAt_in 1 rfl _).trans (U1_in m c main_arg1 (by decide) (by decide)).symm
      | 2 => (U1_y m c).symm
      | 3 => (U1_a m c).symm)

set_option backward.isDefEq.respectTransparency.types false in
/-- The exchange's call. -/
def reg1 : RegionSeg (pcfgs (F := F)) adm (pdats m) () defs₀ 𝒱₀ L lv 1 :=
  Pipeline.RegionSeg.ofTalk (pcfgs (F := F)) adm (pdats m) () defs₀ 𝒱₀ L lv 1 osem1 osem1_facts
    Hs ((Pipeline.ucRefs τ sig) \ Pipeline.arrRefs (τ := τ) spec1) Hs_sub launch1.toP rfl
    (fun c => (body_obligation (U1 m) (U2 m) (U2_y m) (U2_self m) c).loose)
    (fun _ => 0) O₀ (fun c => (owed1_zero (U1 m) (U2 m) c).trans (zero_add _).symm) (owed1_last (U1 m) (U2 m)) (fun _ => rfl)
    (fun c => (dat1 (U1 m) (U2 m) c).share_full fun _ => rfl)
    (U1 m) (U2 m) (rest1 m)
    (Tk1 m) Yk (Xk (Yof (U1 m)) (Aof (U1 m))) Yk (hopen (Yof (U1 m)) (Aof (U1 m)))
    (fun c => by
      show _ ⊢ (dat1 (U1 m) (U2 m) c).Φ 0
      rw [Φ1_zero]; exact .rfl)
    (fun c => by
      show (dat1 (U1 m) (U2 m) c).Φ (Fin.last _) ⊢ _
      rw [Φ1_last]; exact .rfl)
    (fun c => by iintro H; imodintro; iexact H)
    (fun _ => 0)
    ⟨fun c _ _ => mem_L c _, fun c w s => le_of_eq (lv_stage1 c w s), fun c t g i h => by
      refine above_cut (O := (dat1 (U1 m) (U2 m) c).owed t) ?_ g i h
      show Above 0 (if t.val = 0 then O₀ c else 0)
      split
      · exact O₀_above c
      · exact Above.zero 0⟩
    (fun _ => iprop(emp)) (fun _ _ => rfl)
    (fun c => fun
      | 0 => ((dat1 (U1 m) (U2 m) c).arrAt_in 0 rfl _).trans (U2_a m c).symm
      | 1 => (arr1_1 (U1 m) (U2 m) c).trans (U2_g m c).symm)

theorem out2 (c : Dev nD) : outs m 3 main_v3 c = ((Own.pdatsD m (outs m) 𝒱₀ (pd m) (fun _ => 0)) 2 c).arrAt 2 cfg2.N := by
  show U3 m c (Proc.devRef .tc main_v3) = (Own.K2.dat 𝒱₀ (fun c b => V2 m (outs m) c (Proc.devRef .tc b)) (fun _ => 0) c).arrAt 2 cfg2.N
  rw [V2_eq]
  unfold U3
  rw [Function.update_self]
  rfl

/-- The final scaling's call. -/
def reg2 : RegionSeg (pcfgs (F := F)) adm (pdats m) () defs₀ 𝒱₀ L lv 2 :=
  Own.R2D m (outs m) 𝒱₀ L lv () (pd m) (fun _ => 0) (fun _ => 0) cut2 (fun c => semVal (barCell c) 0) (out2 m)

/-! ## From one call to the next -/

theorem pre0 (c : Dev nD) : iprop(StableHlo.held (c : Thread nD τ) (Pipeline.ucRefs τ sig) (V0 m c) ∗ E m 0 c) ⊢ (reg0 m).pre c := by
  show _ ⊢ iprop(StableHlo.held (c : Thread nD τ) (Pipeline.arrRefs (τ := τ) spec0) (V0 m c) ∗ (∃ r, prngReg c r)
    ∗ (StableHlo.held (c : Thread nD τ) ((Pipeline.ucRefs τ sig) \ Pipeline.arrRefs (τ := τ) spec0) (V0 m c) ∗ Tk1 m c) ∗ ∃ W, owes (c : Thread nD τ) (O₀ c) W)
  show iprop(_ ∗ E₀ (Yof (U1 m)) (Aof (U1 m)) c) ⊢ _
  unfold E₀ ow
  rw [StableHlo.held_sub_split (c : Thread nD τ) arr0_S (V0 m c)]
  iintro ⟨⟨Ha, Hr⟩, Hp, HO, HT⟩
  isplitl [Ha]; · iexact Ha
  isplitl [Hp]; · iexact Hp
  isplitl [Hr HT]; · isplitl [Hr] <;> iassumption
  iexact HO

theorem post0 (c : Dev nD) : (reg0 m).post c ⊢ iprop(StableHlo.held (c : Thread nD τ) (Pipeline.ucRefs τ sig) (V1 m (outs m) c) ∗ E m 1 c) := by
  rw [V1_eq]
  show iprop(StableHlo.held (c : Thread nD τ) (Pipeline.arrRefs (τ := τ) spec0) (U1 m c) ∗ (∃ r, prngReg c r)
    ∗ (StableHlo.held (c : Thread nD τ) ((Pipeline.ucRefs τ sig) \ Pipeline.arrRefs (τ := τ) spec0) (V0 m c) ∗ Tk1 m c) ∗ ∃ W, owes (c : Thread nD τ) (O₀ c) W)
    ⊢ iprop(_ ∗ E₀ (Yof (U1 m)) (Aof (U1 m)) c)
  unfold E₀ ow
  rw [StableHlo.held_sub_split (c : Thread nD τ) arr0_S (U1 m c), StableHlo.held_congr (c : Thread nD τ) (S := (Pipeline.ucRefs τ sig) \ Pipeline.arrRefs (τ := τ) spec0) (rest0 m c)]
  iintro ⟨Ha, Hp, ⟨Hr, HT⟩, HO⟩
  isplitl [Ha Hr]; · isplitl [Ha] <;> iassumption
  isplitl [Hp]; · iexact Hp
  isplitl [HO]; · iexact HO
  iexact HT

theorem pre1 (c : Dev nD) : iprop(StableHlo.held (c : Thread nD τ) (Pipeline.ucRefs τ sig) (V1 m (outs m) c) ∗ E m 1 c) ⊢ (reg1 m).pre c := by
  rw [V1_eq]
  show iprop(_ ∗ E₀ (Yof (U1 m)) (Aof (U1 m)) c) ⊢ iprop(StableHlo.held (c : Thread nD τ) (Pipeline.arrRefs (τ := τ) spec1) (U1 m c) ∗ (∃ r, prngReg c r)
    ∗ (StableHlo.held (c : Thread nD τ) ((Pipeline.ucRefs τ sig) \ Pipeline.arrRefs (τ := τ) spec1) (U1 m c) ∗ emp) ∗ Tk1 m c
    ∗ ∃ W, owes (c : Thread nD τ) (0 + O₀ c) W)
  unfold E₀ ow
  rw [zero_add, StableHlo.held_sub_split (c : Thread nD τ) arr1_S (U1 m c)]
  iintro ⟨⟨Ha, Hr⟩, Hp, HO, HT⟩
  isplitl [Ha]; · iexact Ha
  isplitl [Hp]; · iexact Hp
  isplitl [Hr]; · isplitl [Hr]; · iexact Hr
                  iempintro
  isplitl [HT]; · iexact HT
  iexact HO

theorem post1 (c : Dev nD) : (reg1 m).post c ⊢ iprop(StableHlo.held (c : Thread nD τ) (Pipeline.ucRefs τ sig) (V2 m (outs m) c) ∗ E m 2 c) := by
  rw [V2_eq]
  show iprop(StableHlo.held (c : Thread nD τ) (Pipeline.arrRefs (τ := τ) spec1) (U2 m c) ∗ (∃ r, prngReg c r)
    ∗ (StableHlo.held (c : Thread nD τ) ((Pipeline.ucRefs τ sig) \ Pipeline.arrRefs (τ := τ) spec1) (U2 m c) ∗ emp) ∗ Yk c
    ∗ ∃ W, owes (c : Thread nD τ) 0 W) ⊢ iprop(_ ∗ E₁ c)
  unfold E₁ Yk ow
  rw [StableHlo.held_sub_split (c : Thread nD τ) arr1_S (U2 m c)]
  iintro ⟨Ha, Hp, ⟨Hr, -⟩, HY, HO⟩
  isplitl [Ha Hr]; · isplitl [Ha] <;> iassumption
  isplitl [Hp]; · iexact Hp
  isplitl [HO]; · iexact HO
  iexact HY

theorem pre2 (c : Dev nD) : iprop(StableHlo.held (c : Thread nD τ) (Pipeline.ucRefs τ sig) (V2 m (outs m) c) ∗ E m 2 c) ⊢ (reg2 m).pre c :=
  Own.hpre2D m (outs m) 𝒱₀ L lv () (pd m) (fun _ => 0) (fun _ => 0) cut2 (E m) (fun c => semVal (barCell c) 0) (fun _ => .rfl) (out2 m) c

theorem post2 (c : Dev nD) : (reg2 m).post c ⊢ iprop(StableHlo.held (c : Thread nD τ) (Pipeline.ucRefs τ sig) (V3 m (outs m) c) ∗ E m 3 c) :=
  Own.hpost2D m (outs m) 𝒱₀ L lv () (pd m) (fun _ => 0) (fun _ => 0) cut2 (E m) (fun c => semVal (barCell c) 0) (fun _ => .rfl) (out2 m) c

/-! ## The run -/

/-- The launch element: the pipelines' cells and the exchange's. -/
def u₀ : UU := (initOf (Pipeline.cells cfgs cellOf_inj) (Pipeline.launchToks cfgs cellOf_inj), (launchOf barCells dmaCells toks, 1))

/-- The only semaphore that lasts beyond the calls is the barrier's. -/
theorem unscoped_eq : ∀ sm : SemLoc sig, sm.isScoped .tc = false → sm = .reg barS := by decide

/-- What a device's thread ends with. -/
def Tₙ (c : Dev nD) : sProp 𝕄 := iprop(StableHlo.held (c : Thread nD τ) (Pipeline.ucRefs τ sig) (V3 m (outs m) c) ∗ semVal (barCell c) 0)

/-- THE RUN: each device's result holds what the final scaling's call left, its arguments what they held, and every
    semaphore counter is at zero. -/
theorem run_main (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v3) = (dat2 m c).arrAt 2 cfg2.N)
      ∧ r.2.sem = fun _ => 0) := by
  refine Pipeline.θ_run_regions_kit_dev_sems (pcfgs (F := F)) adm (pdats m) () cellOf_inj EP defs₀ 𝒱₀ L lv m ρ main
    (segs 𝒱₀ L lv (E m) () (pdats m) (reg0 m) (reg1 m) (reg2 m))
    (fun c Q => by
      rewrite [main_chain c, Seg.run_eq_chain,
        show (segs 𝒱₀ L lv (E m) () (pdats m) (reg0 m) (reg1 m) (reg2 m) c).map Seg.prog = [
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) O₀ L_of_ne G u₀ ?_
    (T₀ := fun c => iprop(StableHlo.held (c : Thread nD τ) (Pipeline.ucRefs τ sig) (V0 m c) ∗ E m 0 c))
    (Tₙ := Tₙ m)
    (hch := fun c => ⟨pre0 m c, (post0 m c).trans (pre1 m c), (post1 m c).trans (pre2 m c), (post2 m c).trans ?_⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v3) = (dat2 m c).arrAt 2 cfg2.N) ∧ s.sem (barCell c) = 0)
    (hfin := fun c s' => ?_)
    (hQ := fun s h hs => ⟨fun c => (h c).1, sem_eq_zero hs fun c sm hsm => by obtain rfl := unscoped_eq sm hsm; exact (h c).2⟩)
  · unfold u₀ G
    iintro Hu
    ihave H := (ownU_pair _ _) $$ Hu
    icases H with ⟨HP, HX⟩
    imodintro
    isplitl [HP]; · iexact HP
    rw [bigSep_onZero]; iexact HX
  · show iprop(_ ∗ E₁ c) ⊢ iprop(Tₙ m c ∗ _)
    unfold E₁ Tₙ ow
    iintro ⟨Hh, -, HO, Hb⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launch (Yof (U1 m)) (Aof (U1 m)) ρ) $$ [Hr Hla] with HE
    · isplitl [Hr]; · iexact Hr
      iexact Hla
    imodintro
    rw [bigSep_sep']
    isplitl [Hh]; · iexact Hh
    iexact HE
  · unfold Tₙ StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_v3) (Finset.mem_filter.mpr ⟨StableHlo.devRef_mem_tcRefs main_v3, by decide⟩)).trans
          ((Own.V3_at_main_v3 m (outs m) c).trans (by show U3 m c (Proc.devRef .tc main_v3) = _; unfold U3; rw [Function.update_self]))⟩,
        by simpa using hb⟩
    · iexact HSI

end Cert.KernelIdeal.Talk

end
-- ==== Proof.Frames.lean ====
/-
  The frames: each program's run, with what it says of the values dropped. The kernel and its idealization have one text, so
  both frames come from one run; the reference is host operations alone.
-/
module

public import proofs.«01_k».proof.Proof.Run
public import proofs.«01_k».proof.Proof.Gen.Kernel
public import proofs.«01_k».proof.Proof.Gen.ReferenceIdeal.Run
public import proofs.«01_k».proof.Defs

@[expose] public section

noncomputable section

namespace Cert.Proof

open Idealize.ShloMosaic Idealize.SL.Sem

/-- The kernel bodies of the two programs are one text. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, x => rfl
  | 1, x => rfl
  | 2, x => rfl
theorem table_eq : Cert.Kernel.defs (F := Bits) = Cert.KernelIdeal.defs (F := Bits) := by
  show Pipeline.defs (Cert.KernelIdeal.pcfgs (F := Bits)) (Cert.Kernel.defs₀ (F := Bits)) = Pipeline.defs Cert.KernelIdeal.pcfgs Cert.KernelIdeal.defs₀
  rw [bodies_eq]
theorem main_eq : Cert.Kernel.main (F := Bits) = Cert.KernelIdeal.main (F := Bits) := rfl

theorem frame_kernel : Cert.quiescent_Kernel := fun m ρ _ => by
  rw [table_eq, main_eq]
  exact (θ_run Cert.KernelIdeal.defs _ _).mono (fun _ h => ⟨fun c => ⟨(h.1 c).1, (h.1 c).2.1⟩, h.2⟩) (Cert.KernelIdeal.Talk.run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Talk.run_main (F := Ideal) m ρ)

theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

end Cert.Proof

end
-- ==== Proof.Quant.lean ====
module

public import proofs.«01_k».proof.Proof.Gen.Own.KernelIdeal.K2.Frame
public import Idealize.ShloMosaic.PureOps.Ideal.Laws

@[expose] public section

noncomputable section

/-! The quantiser on one number, over the extended reals. The kernel multiplies by `127 / g`, rounds, clips, stores the
    result as an 8-bit integer and scales by `g / 127`; the reference divides by `g / 127`, rounds, clips and scales.
    Where `g` bounds the number's magnitude the two agree: also at `g = 0` and at `g = ⊤`. -/

namespace Cert.Quant

open Idealize.ShloMosaic

/-- Round to nearest even, then clip to `[-127, 127]`. -/
def rc (x : EReal) : EReal := min ((127 : ℝ) : EReal) (max ((-127 : ℝ) : EReal) (Ideal.liftRound Ideal.roundHalfEven x))

theorem lit_127 : Ideal.ofBits .f32 0x42FE0000#32 = ((127 : ℝ) : EReal) := by
  simp [Ideal.ofBits, Ideal.ieee, -EReal.coe_mul]; norm_num
theorem lit_neg127 : Ideal.ofBits .f32 0xC2FE0000#32 = ((-127 : ℝ) : EReal) := by
  simp [Ideal.ofBits, Ideal.ieee, -EReal.coe_mul]; norm_num
theorem lit_bot : Ideal.ofBits .f32 0xFF800000#32 = ⊥ := by
  simp [Ideal.ofBits, Ideal.ieee]
theorem lit_zero : Ideal.ofBits .f32 0x00000000#32 = 0 := by
  simp [Ideal.ofBits, Ideal.ieee]

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

/-- A rounded, clipped number is an integer between −127 and 127. -/
theorem rc_int (x : EReal) : ∃ n : ℤ, -127 ≤ n ∧ n ≤ 127 ∧ rc x = ((n : ℝ) : EReal) := by
  unfold rc
  induction x using EReal.rec with
  | bot => exact ⟨-127, le_refl _, by norm_num, by rw [Ideal.liftRound_bot, max_bot_right, min_eq_right (by exact_mod_cast (by norm_num : (-127 : ℝ) ≤ 127))]; norm_num⟩
  | top => exact ⟨127, by norm_num, le_refl _, by rw [Ideal.liftRound_top, max_top_right, min_top_right]; norm_num⟩
  | coe r =>
    refine ⟨min 127 (max (-127) (Ideal.roundHalfEven r)), by omega, by omega, ?_⟩
    rw [Ideal.liftRound_coe, ← coe_max, ← coe_min]
    push_cast; rfl

/-- Such a number survives the 8-bit integer. -/
theorem byte_rc (x : EReal) : (((Ideal.fptosi 8 (rc x)).toInt : ℝ) : EReal) = rc x := by
  obtain ⟨n, h1, h2, e⟩ := rc_int x
  rw [e]
  unfold Ideal.fptosi
  rw [Ideal.toIntClamped_coe]
  have : (if 0 ≤ (n : ℝ) then ⌊(n : ℝ)⌋ else ⌈(n : ℝ)⌉) = n := by split <;> simp
  rw [this]
  have h3 : max (-(2 ^ (8 - 1) : ℕ) : ℤ) (min ((2 ^ (8 - 1) : ℕ) - 1) n) = n := by norm_num; omega
  rw [h3, BitVec.toInt_ofInt]
  congr 2
  rw [Int.bmod_eq_of_le] <;> norm_num <;> omega

/-- The two quantisers agree on a number whose magnitude is at most `g`. -/
theorem agree (y g : EReal) (h : max y (-y) ≤ g) :
    (((Ideal.fptosi 8 (rc (y * Ideal.div ((127 : ℝ) : EReal) g))).toInt : ℝ) : EReal) * Ideal.div g ((127 : ℝ) : EReal)
      = rc (Ideal.div y (Ideal.div g ((127 : ℝ) : EReal))) * Ideal.div g ((127 : ℝ) : EReal) := by
  rw [byte_rc]
  have h0 : 0 ≤ g := by
    refine le_trans ?_ h
    rcases le_total 0 y with hy | hy
    · exact le_max_of_le_left hy
    · exact le_max_of_le_right (by rw [← neg_zero]; exact EReal.neg_le_neg_iff.mpr hy)
  have n127 : ((127 : ℝ) : EReal) ≠ 0 := by exact_mod_cast (by norm_num : (127 : ℝ) ≠ 0)
  induction g using EReal.rec with
  | bot => exact absurd h0 (by simp)
  | top =>
    have e1 : Ideal.div ((127 : ℝ) : EReal) ⊤ = 0 := by unfold Ideal.div; simp
    have e2 : Ideal.div ⊤ ((127 : ℝ) : EReal) = ⊤ := by
      rw [Ideal.div_coe (by norm_num)]; exact EReal.top_mul_coe_of_pos (by norm_num)
    have e3 : Ideal.div y ⊤ = 0 := by unfold Ideal.div; simp
    rw [e1, e2, e3, mul_zero]
  | coe r =>
    have hr : 0 ≤ r := by exact_mod_cast h0
    have h1 : y ≤ r := (le_max_left _ _).trans h
    have h2 : -y ≤ r := (le_max_right _ _).trans h
    induction y using EReal.rec with
    | bot => exact absurd h2 (by simp)
    | top => exact absurd h1 (by simp)
    | coe s =>
      rcases hr.eq_or_lt with rfl | hp
      · have hs : s = 0 := le_antisymm (by exact_mod_cast h1) (by have : -s ≤ 0 := by exact_mod_cast h2
                                                                  linarith)
        subst hs
        have e2 : Ideal.div ((0 : ℝ) : EReal) ((127 : ℝ) : EReal) = 0 := by rw [Ideal.div_coe (by norm_num)]; simp
        rw [e2, mul_zero, mul_zero]
      · have e1 : Ideal.div ((127 : ℝ) : EReal) (r : EReal) = ((127 / r : ℝ) : EReal) := by
          rw [Ideal.div_coe hp.ne', ← EReal.coe_mul]; congr 1; ring
        have e2 : Ideal.div (r : EReal) ((127 : ℝ) : EReal) = ((r / 127 : ℝ) : EReal) := by
          rw [Ideal.div_coe (by norm_num), ← EReal.coe_mul]; congr 1; ring
        rw [e1, e2, Ideal.div_coe (by positivity), ← EReal.coe_mul, ← EReal.coe_mul]
        congr 3
        field_simp

end Cert.Quant

end
-- ==== Proof.Maxima.lean ====
/-
  What the calls' payloads are over the extended reals: a block of the product is a sum of products, and a maximum over
  a block is described by the bounds it meets.
-/
module

public import proofs.«01_k».proof.Proof.Base
public import proofs.«01_k».proof.Proof.Quant
public import Idealize.ShloMosaic.Lib.MatmulPlain
public import Idealize.ShloMosaic.Lib.Pipeline.Value

@[expose] public section

noncomputable section

namespace Cert.KernelIdeal.Values

open Cert.KernelIdeal Cert.KernelIdeal.Gen Cert.KernelIdeal.Slots Cert.KernelIdeal.Talk
open Idealize.ShloMosaic Idealize.ShloMosaic.ValueIdx

/-! ## A maximum over every index -/

section Fold
variable {s t : Shape} {axes : List (Fin s.rank)}

/-- A maximum over all axes, from minus infinity, is at most `B` exactly if every entry is. -/
theorem multiMax_le (v : FVec Ideal s .f32) (h : s.Reduces axes t) (ht : ∀ b, t.size b = 1) (hφ : FKind.Formats .f32)
    (hacc : (0xFF800000#32 : BitVec FTy.f32.bits) = FKind.maximumf.neutral .f32 hφ) (j : t.Idx) (B : EReal) :
    multiReduction .maximumf axes t v 0xFF800000#32 h hφ hacc j ≤ B ↔ ∀ i, v i ≤ B := by
  rw [multiReduction_maximumf_eq_fold]
  rw [Finset.filter_true_of_mem fun i _ => funext fun b => Fin.ext (by
    have := (h.drop i b).isLt; have := (j b).isLt; have := ht b; omega)]
  refine (Finset.fold_max_le B).trans ⟨fun h i => h.2 i (Finset.mem_univ i), fun h => ⟨?_, fun i _ => h i⟩⟩
  show Ideal.ofBits .f32 0xFF800000#32 ≤ B
  rw [Quant.lit_bot]
  exact bot_le

/-- The same of the one-device program's maximum. -/
theorem hostMax_le {u : Shape} (v : FVec Ideal s .f32) (h : s.ReducesTo axes t) (ht : ∀ b, t.size b = 1) (hu : 0 < u.numel)
    (j : t.Idx) (B : EReal) :
    Host.reduce FloatOps.maximumf v (constant u .f32 0xFF800000#32) h hu j ≤ B ↔ ∀ i, v i ≤ B := by
  rw [Host.reduce_eq_fold]
  rw [Finset.filter_true_of_mem fun i _ => funext fun b => Fin.ext (by
    have := (h.drop i b).isLt; have := (j b).isLt; have := ht b; omega)]
  refine (Finset.fold_max_le B).trans ⟨fun h i => h.2 i (Finset.mem_univ i), fun h => ⟨?_, fun i _ => h i⟩⟩
  show Ideal.ofBits .f32 0xFF800000#32 ≤ B
  rw [Quant.lit_bot]
  exact bot_le

theorem forall_cast {α : Type} (v : s.Idx → α) (h : s.ShapeCasts t) (P : α → Prop) : (∀ i, P (shapeCast t v h i)) ↔ ∀ i, P (v i) :=
  ⟨fun H i => by simpa [shapeCast] using H ((Shape.reshapeEquiv h).symm i), fun H i => H _⟩

end Fold

/-! ## The product's payloads -/

/-- The magnitude. -/
abbrev mag (x : EReal) : EReal := max x (-x)

theorem pay2_apply (x : Vec Ideal S1024x4096 .f32) (w : Vec Ideal S4096x512 .f32) (i : Fin 1024) (j : Fin 512) :
    k0_pay2 (k0_pay1 x) w (ix2 i j) = ∑ k : Fin 4096, x (ix2 i k) * w (ix2 k j) := by
  unfold k0_pay2 k0_pay1
  simp only [shapeCast_self]
  refine (Ideal.matmul_plain_apply (M := 1024) (K := 4096) (N := 512) none _ _ _ i j).trans ?_
  show Ideal.ofBits .f32 0x00000000#32 + _ = _
  rw [Quant.lit_zero, zero_add]
  rfl

theorem pay3_eq (x : Vec Ideal S1024x4096 .bf16) (w : Vec Ideal S4096x512 .f32) : k0_pay3 x w = k0_pay2 x w := rfl

theorem pay4_le (x : Vec Ideal S1024x4096 .bf16) (w : Vec Ideal S4096x512 .f32) (B : EReal) :
    k0_pay4 x w ≤ B ↔ ∀ i, mag (k0_pay2 x w i) ≤ B := by
  unfold k0_pay4 extractAt
  refine (multiMax_le (t := S1) _ _ (by decide) _ _ _ B).trans ?_
  exact (forall_cast _ _ (· ≤ B)).trans Iff.rfl

theorem pay5_le (x : Vec Ideal S1024x4096 .bf16) (w : Vec Ideal S4096x512 .f32) (a B : EReal) :
    k0_pay5 (F := Ideal) x w a ≤ B ↔ a ≤ B ∧ ∀ i, mag (k0_pay2 x w i) ≤ B := by
  rw [← pay4_le]
  exact max_le_iff

/-! ## The exchange's payloads -/

theorem pay1_le (a : Vec Ideal S8x128 .f32) (r : Vec Ideal S3x8x128 .f32) (B : EReal) :
    k1_pay1 a r ≤ B ↔ (∀ i, a i ≤ B) ∧ ∀ i, r i ≤ B := by
  unfold k1_pay1 extractAt
  refine max_le_iff.trans (and_congr ?_ ?_)
  · refine (multiMax_le (t := S1) _ _ (by decide) _ _ _ B).trans ?_
    exact (forall_cast _ _ (· ≤ B)).trans (forall_cast _ _ (· ≤ B))
  · refine (multiMax_le (t := S1) _ _ (by decide) _ _ _ B).trans ?_
    exact forall_cast _ _ (· ≤ B)

/-- Every device is the device itself or one of the three whose maxima it receives. -/
theorem self_or_src : ∀ c d : Dev nD, d = c ∨ ∃ k : Fin 3, d = src c k.val := by decide

/-- The maximum over a device's own block and those received is the one over all the devices' blocks. -/
theorem gmax_le (A : Dev nD → Vec Ideal S8x128 .f32) (c : Dev nD) (B : EReal) :
    k1_pay1 (A c) (arT A c) ≤ B ↔ ∀ d i, A d i ≤ B := by
  rw [pay1_le]
  constructor
  · rintro ⟨h1, h2⟩ d i
    rcases self_or_src c d with rfl | ⟨k, rfl⟩
    · exact h1 i
    · have := h2 (cons (n := 3) (R := 8) (C := 128) k i)
      unfold arT at this
      rwa [stack_cons] at this
  · exact fun h => ⟨h c, fun i => h _ _⟩

/-- One code. -/
theorem qvec_apply (inv : EReal) (v : FVec Ideal S1024x2048 .bf16) (i : S1024x2048.Idx) :
    qvec (F := Ideal) inv v i = Ideal.fptosi 8 (Quant.rc (v i * inv)) := by
  show Ideal.fptosi 8 (min (Ideal.ofBits .f32 0x42FE0000#32) (max (Ideal.ofBits .f32 0xC2FE0000#32) _)) = _
  rw [Quant.lit_127, Quant.lit_neg127]
  rfl

theorem pay3_inv (a : Vec Ideal S8x128 .f32) (r : Vec Ideal S3x8x128 .f32) :
    k1_pay3 a r = Ideal.div ((127 : ℝ) : EReal) (k1_pay1 a r) := by
  unfold k1_pay3
  generalize k1_pay1 a r = z
  exact congrArg (fun x : EReal => Ideal.div x z) Quant.lit_127

/-! ## The last call's payload -/

theorem scale_apply (g : Vec Ideal S1x1 .f32) (q : Vec Ideal S1x1024x2048 .i8) (j : S1024x2048.Idx) :
    k2_pay1 g q j = (((q (cons (n := 1) (R := 1024) (C := 2048) 0 j)).toInt : ℝ) : EReal)
      * Ideal.div (g (ix2 0 0)) ((127 : ℝ) : EReal) := by
  rw [← Quant.lit_127]
  have e : shapeCast S1024x2048 q shapeCasts_S1x1024x2048_S1024x2048 j = q (cons (n := 1) (R := 1024) (C := 2048) 0 j) :=
    congrArg q (reshape_one (R := 1024) (C := 2048) shapeCasts_S1x1024x2048_S1024x2048 j)
  rw [← e]
  unfold k2_pay1 extractAt
  have e0 : (fun a => ⟨(![0, 0] : Fin 2 → ℕ) a, inpos_S1x1_p0_0 a⟩ : S1x1.Idx) = ix2 0 0 := by funext a; fin_cases a <;> rfl
  rw [e0]
  rfl

end Cert.KernelIdeal.Values

end
-- ==== Proof.Values.lean ====
/-
  What the kernel's result holds over the extended reals, index by index: the product of the device's rows and the
  weights; the maximum of its magnitudes over all devices; and the code of each entry, scaled back.
-/
module

public import proofs.«01_k».proof.Proof.Run
public import proofs.«01_k».proof.Proof.Maxima

@[expose] public section

noncomputable section

namespace Cert.KernelIdeal.Values

open Cert.KernelIdeal Cert.KernelIdeal.Gen Cert.KernelIdeal.Slots Cert.KernelIdeal.Talk
open Idealize.ShloMosaic Idealize.ShloMosaic.TcCoe Idealize.ShloMosaic.ValueIdx
open Idealize.ShloMosaic.Pipeline (Dat)

variable (m : (ℓ : Loc nD τ sig) → Buf (Elt Ideal) ℓ)

/-! ## The windows' indices -/

theorem index0_0 : ∀ t : Fin cfg0.N, win0_0.index t = ![0, 0] := (by decide +kernel : ∀ t : Fin grid0.N, _)
theorem index0_1 : ∀ t : Fin cfg0.N, win0_1.index t = ![0, t.val] := (by decide +kernel : ∀ t : Fin grid0.N, _)
theorem index0_2 : ∀ t : Fin cfg0.N, win0_2.index t = ![0, t.val] := (by decide +kernel : ∀ t : Fin grid0.N, _)
theorem index2_0 : ∀ t : Fin cfg2.N, win2_0.index t = ![t.val, 0, 0] := (by decide +kernel : ∀ t : Fin grid2.N, _)
theorem index2_1 : ∀ t : Fin cfg2.N, win2_1.index t = ![0, 0] := (by decide +kernel : ∀ t : Fin grid2.N, _)
theorem index2_2 : ∀ t : Fin cfg2.N, win2_2.index t = ![t.val, 0] := (by decide +kernel : ∀ t : Fin grid2.N, _)

/-! ## The product -/

/-- A device's rows and weights, and their product. -/
abbrev X (c : Dev nD) : Vec Ideal S1024x4096 .f32 := m ((c : Thread nD τ).loc main_arg0)
abbrev W (c : Dev nD) : Vec Ideal S4096x8192 .f32 := m ((c : Thread nD τ).loc main_arg1)
def prod (c : Dev nD) : Vec Ideal S1024x8192 .bf16 := fun i => ∑ k : Fin 4096, X m c (ix2 (i 0) k) * W m c (ix2 k (i 1))

theorem x_read (c : Dev nD) (i : Fin 1024) (k : Fin 4096) : K0.iblk (Vb m) c 0 (K0.pt 0) (ix2 i k) = X m c (ix2 i k) := by
  blk_simp [K0.iblk]
  refine congrArg (X m c) ?_
  blk_ext [index0_0]

theorem w_read (c : Dev nD) (t : Fin cfg0.N) (k : Fin 4096) (j : Fin 512) (J : Fin 8192) (hJ : J.val = t.val * 512 + j.val) :
    K0.wb (Vb m) c t.val (ix2 k j) = W m c (ix2 k J) := by
  unfold K0.wb
  rw [K0.pt_val]
  blk_simp [K0.iblk]
  refine congrArg (W m c) ?_
  blk_ext [index0_1]
  exact hJ.symm

theorem block_apply (c : Dev nD) (t : Fin cfg0.N) (i : Fin 1024) (j : Fin 512) (J : Fin 8192) (hJ : J.val = t.val * 512 + j.val) :
    k0_pay2 (K0.xb (Vb m) c) (K0.wb (Vb m) c t.val) (ix2 i j) = prod m c (ix2 i J) := by
  unfold K0.xb
  rw [pay2_apply]
  exact Finset.sum_congr rfl fun k _ => congrArg₂ (· * ·) (x_read m c i k) (w_read m c t k j J hJ)

theorem product (c : Dev nD) : (dat0 m c).arrAt 2 cfg0.N = prod m c := by
  refine (dat0 m c).arrAt_eq_of_covers 2 _ (by decide +kernel) fun t hf y => ?_
  blk_simp
  unfold dat0
  rw [K0.after_2, pay3_eq]
  have hy : (y : S1024x512.Idx) = ix2 (y 0) (y 1) := by funext a; fin_cases a <;> rfl
  have hJ : t.val * 512 + (y 1).val < 8192 := by
    have h1 : (y 1).val < 512 := (y 1).isLt
    have h2 : t.val < 16 := lt_of_lt_of_eq t.isLt N_0
    omega
  refine ((congrArg (k0_pay2 (K0.xb (Vb m) c) (K0.wb (Vb m) c t.val)) hy).trans
    (block_apply m c t (y 0) (y 1) ⟨_, hJ⟩ rfl)).trans (congrArg (prod m c) ?_)
  blk_ext [index0_2]

/-! ## The maximum of the magnitudes -/

theorem acc_le (c : Dev nD) (B : EReal) : ∀ n : ℕ,
    K0.acc (Vb m) c n ≤ B ↔ ∀ k ≤ n, ∀ i, mag (k0_pay2 (K0.xb (Vb m) c) (K0.wb (Vb m) c k) i) ≤ B
  | 0 => (pay4_le _ _ B).trans ⟨fun h k hk => by obtain rfl := Nat.le_zero.mp hk; exact h, fun h => h 0 le_rfl⟩
  | n + 1 => by
    refine (pay5_le _ _ (K0.acc (Vb m) c n) B).trans ?_
    rw [acc_le c B n]
    constructor
    · rintro ⟨h1, h2⟩ k hk
      rcases Nat.le_succ_iff.mp hk with h | rfl
      · exact h1 k h
      · exact h2
    · exact fun h => ⟨fun k hk => h k (Nat.le_succ_of_le hk), h _ le_rfl⟩

/-- The last point. -/
def tl : Fin cfg0.N := K0.pt 15

theorem pay6_apply (z : Ideal .f32) (i : S8x128.Idx) : k0_pay6 (F := Ideal) z i = z := rfl

theorem maxima (c : Dev nD) : (dat0 m c).arrAt 3 cfg0.N = (fun _ => K0.acc (Vb m) c 15 : Vec Ideal S8x128 .f32) := by
  refine (dat0 m c).arrAt_eq_of_after_last 3 tl (by decide +kernel) _ fun j => ?_
  unfold dat0
  rw [K0.after_3, show tl.val = 15 from rfl]
  exact (cast_eq _ _).trans (pay6_apply _ _)

theorem y_eq (c : Dev nD) : Yof (U1 m) c = prod m c := (U1_y m c).trans (product m c)

theorem read_const (z : Ideal .f32) (i : S8x128.Idx) :
    ((cfg1.win 0).blk t1_0).view.read (Elt Ideal) (fun _ => z : Vec Ideal S8x128 .f32) i = z := rfl

theorem a_apply (c : Dev nD) (i : S8x128.Idx) : Aof (U1 m) c i = K0.acc (Vb m) c 15 := by
  unfold Aof
  rw [U1_a, maxima]
  exact read_const _ _

/-- A bound of a device's running maximum is one of its product's magnitudes. -/
theorem last_le (c : Dev nD) (B : EReal) : K0.acc (Vb m) c 15 ≤ B ↔ ∀ i, mag (prod m c i) ≤ B := by
  rw [acc_le]
  constructor
  · intro h i
    have h1 : (i 1).val < 8192 := (i 1).isLt
    have ht : (i 1).val / 512 < cfg0.N := lt_of_lt_of_eq (by omega : _ < 16) N_0.symm
    have := h ((i 1).val / 512) (by omega) (ix2 (i 0) ⟨(i 1).val % 512, Nat.mod_lt _ (by decide)⟩)
    rw [block_apply m c ⟨_, ht⟩ (i 0) _ (i 1) (by show (i 1).val = (i 1).val / 512 * 512 + (i 1).val % 512; omega)] at this
    have hi : i = ix2 (i 0) (i 1) := by funext a; fin_cases a <;> rfl
    rw [hi]
    exact this
  · intro h k hk i
    have hi : i = ix2 (i 0) (i 1) := by funext a; fin_cases a <;> rfl
    have h1 : (i 1).val < 512 := (i 1).isLt
    rw [hi]
    exact (congrArg mag (block_apply m c ⟨k, lt_of_lt_of_eq (by omega : k < 16) N_0.symm⟩ (i 0) (i 1) ⟨k * 512 + (i 1).val, by omega⟩ rfl)).trans_le (h _)

/-- The maximum every device computes. -/
def gmax (c : Dev nD) : EReal := k1_pay1 (Aof (U1 m) c) (arT (Aof (U1 m)) c)

theorem gmax_bound (c : Dev nD) (B : EReal) : gmax m c ≤ B ↔ ∀ d i, mag (prod m d i) ≤ B := by
  unfold gmax
  rw [gmax_le]
  constructor
  · intro h d i
    have := h d (ix2 0 0)
    rw [a_apply, last_le] at this
    exact this i
  · intro h d i
    rw [a_apply, last_le]
    exact h d

/-- It is one number. -/
theorem gmax_same (c d : Dev nD) : gmax m c = gmax m d :=
  eq_of_forall_ge_iff fun B => (gmax_bound m c B).trans (gmax_bound m d B).symm

end Cert.KernelIdeal.Values

end
-- ==== Proof.Result.lean ====
/-
  What the last call leaves of the kernel's result, index by index, over the extended reals.
-/
module

public import proofs.«01_k».proof.Proof.Run
public import proofs.«01_k».proof.Proof.Values

@[expose] public section

noncomputable section

namespace Cert.KernelIdeal.Values

open Cert.KernelIdeal Cert.KernelIdeal.Gen Cert.KernelIdeal.Slots Cert.KernelIdeal.Talk
open Idealize.ShloMosaic Idealize.ShloMosaic.TcCoe Idealize.ShloMosaic.ValueIdx
open Idealize.ShloMosaic.Pipeline (Dat)

variable (m : (ℓ : Loc nD τ sig) → Buf (Elt Ideal) ℓ)

/-! ## The last call -/

theorem hz2 : (![0, 0] : Fin 2 → ℕ) = fun _ => 0 := funext fun a => by fin_cases a <;> rfl
theorem hz3 : (![0, 0, 0] : Fin 3 → ℕ) = fun _ => 0 := funext fun a => by fin_cases a <;> rfl

theorem out_eq (c : Dev nD) (i : grid2.Coords) (a1 : Memref sig .tc .vmem S1x1024x2048 .i8) (h1 : a1.IsWhole)
    (a2 : Memref sig .tc .vmem S8x128 .f32) (h2 : a2.IsWhole) (a3 : Memref sig .tc .vmem S1024x2048 .f32) (h3 : a3.IsWhole)
    (q : Vec Ideal S1x1024x2048 .i8) (g : Vec Ideal S8x128 .f32) (gv : EReal) (hg : ∀ i, g i = gv) :
    Own.K2.out2_A_2 (Ix := Unit) (U := UU) (Lvl := ℕ) 𝒱₀ c i a1 h1 a2 h2 a3 h3 q g = k2_pay1 (fun _ => gv) q := by
  unfold Own.K2.out2_A_2
  rw [View.read_writes_eq_canon _ _ _ (Own.K2.cover2_A_2 𝒱₀ c i a1 h1 a2 h2 a3 h3 q g)]
  unfold Own.K2.kernelRun2_A
  dsimp only
  rw [View.canon_unit_zero hz2]
  simp only [View.readAt_eq_ld, h1.read_unread, h2.read_unread, View.ld_unit_zero (S := S1x1024x2048) hz3]
  exact congrArg (fun v => k2_pay1 v q) (funext fun j => hg _)

theorem payg_apply (a : Vec Ideal S8x128 .f32) (r : Vec Ideal S3x8x128 .f32) (i : S8x128.Idx) : k1_pay2 a r i = k1_pay1 a r := rfl

/-- A device's scale, everywhere in the block it keeps. -/
theorem g_apply (c : Dev nD) (i : S8x128.Idx) : (gT (Aof (U1 m)) c : Vec Ideal S8x128 .f32) i = gmax m c := by
  exact payg_apply _ _ _

/-- The codes a device holds after the exchange: in plane `p` those of device `p`'s rows. -/
theorem code_apply (c p : Dev nD) (j : S1024x2048.Idx) :
    qaT (Yof (U1 m)) (Aof (U1 m)) c (cons (n := 4) (R := 1024) (C := 2048) p j)
      = Ideal.fptosi 8 (Quant.rc (prod m p (colI c j) * Ideal.div ((127 : ℝ) : EReal) (gmax m p))) := by
  unfold qaT
  rw [stack_cons]
  unfold code
  rw [qvec_apply]
  unfold col invT gmax
  rw [pay3_inv, y_eq]

section Blocks
variable (V : (c : Dev nD) → (b : Ref sig .tc) → Buf (Elt Ideal) ((c : Thread nD τ).loc b))

theorem q_block (c : Dev nD) (t : Fin cfg2.N) (j : S1024x2048.Idx) :
    Own.K2.iblk V c 0 t (cons (n := 1) (R := 1024) (C := 2048) 0 j)
      = (V c main_v2_0 : Vec Ideal S4x1024x2048 .i8) (cons (n := 4) (R := 1024) (C := 2048) (t.cast N_2) j) := by
  blk_simp [Own.K2.iblk]
  refine congrArg (V c main_v2_0 : Vec Ideal S4x1024x2048 .i8) ?_
  blk_ext [index2_0]
  all_goals rfl

theorem g_block (c : Dev nD) (t : Fin cfg2.N) (g : EReal) (h : ∀ i, (V c main_v2_1 : Vec Ideal S8x128 .f32) i = g) (i : S8x128.Idx) :
    Own.K2.iblk V c 1 t i = g := by
  blk_simp [Own.K2.iblk]
  exact h _

end Blocks

/-- What the last call starts from. -/
abbrev V2b (c : Dev nD) (b : Ref sig .tc) : Buf (Elt Ideal) ((c : Thread nD τ).loc b) := U2 m c (Proc.devRef .tc b)

theorem q_read (c : Dev nD) (t : Fin cfg2.N) (j : S1024x2048.Idx) :
    Own.K2.iblk (V2b m) c 0 t (cons (n := 1) (R := 1024) (C := 2048) 0 j)
      = qaT (Yof (U1 m)) (Aof (U1 m)) c (cons (n := 4) (R := 1024) (C := 2048) (t.cast N_2) j) :=
  (q_block (V2b m) c t j).trans (congrFun (U2_self m c) _)

theorem g_read (c : Dev nD) (t : Fin cfg2.N) (i : S8x128.Idx) : Own.K2.iblk (V2b m) c 1 t i = gmax m c :=
  g_block (V2b m) c t _ (fun i => (congrFun (U2_g m c) i).trans (g_apply m c i)) i

/-- An entry coded and scaled back, as the plain program does it: divided by the scale, to the nearest integer, clipped,
    times the scale. -/
def quant (y g : EReal) : EReal :=
  Quant.rc (Ideal.div y (Ideal.div g ((127 : ℝ) : EReal))) * Ideal.div g ((127 : ℝ) : EReal)

/-- Row `r` of all the rows lies in device `r / 1024`'s. -/
def rowDev (i : S4096x2048.Idx) : Dev nD := ⟨(i 0).val / 1024, by have h : (i 0).val < 4096 := (i 0).isLt; show _ < 4; omega⟩
def rowIn (i : S4096x2048.Idx) : S1024x2048.Idx := ix2 ⟨(i 0).val % 1024, Nat.mod_lt _ (by decide)⟩ (i 1)

/-- The result of device `c`. -/
def result (c : Dev nD) : Vec Ideal S4096x2048 .f32 := fun i => quant (prod m (rowDev i) (colI c (rowIn i))) (gmax m c)

theorem out_apply (c : Dev nD) (t : Fin cfg2.N) (j : S1024x2048.Idx) :
    k2_pay1 (fun _ => gmax m c) (Own.K2.iblk (V2b m) c 0 t) j
      = quant (prod m (t.cast N_2) (colI c j)) (gmax m c) := by
  rw [scale_apply, q_read, code_apply, gmax_same m (t.cast N_2) c]
  exact Quant.agree _ _ ((gmax_bound m c _).mp le_rfl _ _)

theorem left_apply (c : Dev nD) (t : Fin cfg2.N) (j : S1024x2048.Idx) :
    ((dat2 m c).after 2 t : Vec Ideal S1024x2048 .f32) j = quant (prod m (t.cast N_2) (colI c j)) (gmax m c) := by
  refine Eq.trans ?_ (out_apply m c t j)
  unfold dat2
  rw [Own.K2.after2_2]
  unfold Own.K2.outsAt2
  rw [out_eq c _ _ _ _ _ _ _ _ _ (gmax m c) (g_read m c t)]

theorem result_apply (c p : Dev nD) (j : S1024x2048.Idx) (i : S4096x2048.Idx) (h0 : (i 0).val = p.val * 1024 + (j 0).val)
    (h1 : (i 1).val = (j 1).val) : result m c i = quant (prod m p (colI c j)) (gmax m c) := by
  have hj : (j 0).val < 1024 := (j 0).isLt
  have e0 : rowDev i = p := Fin.ext (by show (i 0).val / 1024 = p.val; omega)
  have e1 : rowIn i = j := by
    funext a; apply Fin.ext
    fin_cases a
    · show (i 0).val % 1024 = (j 0).val; omega
    · exact h1
  unfold result
  rw [e0, e1]

theorem final (c : Dev nD) : (dat2 m c).arrAt 2 cfg2.N = result m c := by
  refine (dat2 m c).arrAt_eq_of_covers 2 _ (by decide +kernel) fun t hf y => ?_
  blk_simp
  refine (left_apply m c t _).trans (result_apply m c (t.cast N_2) _ _ ?_ ?_).symm
  · blk_simp [index2_2]
    rfl
  · blk_simp [index2_2]

end Cert.KernelIdeal.Values

end
-- ==== Proof.Algebraic.lean ====
/-
  Over the extended reals the kernel's result is the reference's: the products are the same sums, the maximum over the
  four devices is the maximum over the whole array, and coding before the exchange and scaling after it give what the
  reference's quantiser gives.
-/
module

public import proofs.«01_k».proof.Proof.Result
public import proofs.«01_k».proof.Proof.Gen.ReferenceIdeal.Run
public import proofs.«01_k».proof.Defs
public import Idealize.ShloMosaic.Lib.Layout
public import Idealize.ShloMosaic.Lib.StackMember

@[expose] public section

noncomputable section

/-! ## The reference, index by index -/

namespace Cert.ReferenceIdeal.Values

open Cert.ReferenceIdeal Cert.ReferenceIdeal.Gen
open Idealize.ShloMosaic Idealize.ShloMosaic.ValueIdx
open Cert.KernelIdeal.Values (mag quant hostMax_le)

/-- The whole product. -/
def prod (A : FVec Ideal S4096x4096 .f32) (B : FVec Ideal S4096x8192 .f32) : FVec Ideal S4096x8192 .f32 :=
  Host.dotGeneral dot_S4096x4096_S4096x8192_S4096x8192_1_0_0_1_n_n none A B

theorem prod_apply (A : FVec Ideal S4096x4096 .f32) (B : FVec Ideal S4096x8192 .f32) (i : Fin 4096) (j : Fin 8192) :
    prod A B (ix2 i j) = ∑ k : Fin 4096, A (ix2 i k) * B (ix2 k j) :=
  StackMember.dotGeneral_plain_apply (m := 4096) (k := 4096) (n := 8192) none A B i j

/-- The largest magnitude of an array. -/
def top (Y : FVec Ideal S4096x8192 .f32) : FVec Ideal S_ .f32 :=
  Host.reduce FloatOps.maximumf (Host.absf Y) (constant S_ .f32 0xFF800000#32) reducesTo_S4096x8192_S_d0_1 h_S_

theorem top_le (Y : FVec Ideal S4096x8192 .f32) (j : S_.Idx) (B : EReal) : top Y j ≤ B ↔ ∀ i, mag (Y i) ≤ B :=
  hostMax_le (t := S_) (u := S_) _ _ (fun b => b.elim0) _ j B

/-- The quantiser of a whole array. -/
def coded (Y : FVec Ideal S4096x8192 .f32) (g : FVec Ideal S_ .f32) : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf Y (broadcastInDim S4096x8192 ![] bcast_S_S4096x8192 (Host.divf g (constant S_ .f32 0x42FE0000#32)))))))
    (broadcastInDim S4096x8192 ![] bcast_S_S4096x8192 (Host.divf g (constant S_ .f32 0x42FE0000#32)))

def j0 : S_.Idx := fun b => b.elim0

theorem coded_apply (Y : FVec Ideal S4096x8192 .f32) (g : FVec Ideal S_ .f32) (i : S4096x8192.Idx) :
    coded Y g i = quant (Y i) (g j0) := by
  unfold quant Quant.rc
  rw [← Quant.lit_127, ← Quant.lit_neg127]
  have e : ∀ j : S_.Idx, j = j0 := fun j => funext fun b => b.elim0
  have eg : ∀ j : S_.Idx, g j = g j0 := fun j => congrArg g (e j)
  unfold coded
  rw [← eg]
  rfl

end Cert.ReferenceIdeal.Values

namespace Cert.Proof

open Idealize.ShloMosaic Idealize.SL.Sem Idealize.ShloMosaic.ValueIdx
open Cert.KernelIdeal.Values (mag quant)

section
variable (m : (ℓ : Loc Cert.KernelIdeal.nD Cert.KernelIdeal.τ Cert.KernelIdeal.sig) → Buf (Elt Ideal) ℓ)
variable (A : FVec Ideal Cert.ReferenceIdeal.S4096x4096 .f32) (B : FVec Ideal Cert.ReferenceIdeal.S4096x8192 .f32)

/-- The arguments of the two programs match: each device has its rows of the one, and the whole of the other. -/
def Match : Prop := ∀ c : Dev Cert.KernelIdeal.nD,
  Cert.KernelIdeal.Values.X m c = Layout.block ⟨2, ![1024, 4096]⟩ ⟨2, ![4096, 4096]⟩ 0 4 c A ∧ Cert.KernelIdeal.Values.W m c = B

variable {m A B}

theorem prod_eq (h : Match m A B) (c : Dev Cert.KernelIdeal.nD) (i : Cert.KernelIdeal.S1024x8192.Idx) (I : Cert.ReferenceIdeal.S4096x8192.Idx)
    (h0 : (I 0).val = c.val * 1024 + (i 0).val) (h1 : (I 1).val = (i 1).val) :
    Cert.KernelIdeal.Values.prod m c i = Cert.ReferenceIdeal.Values.prod A B I := by
  have hI : I = ix2 (I 0) (I 1) := by funext a; fin_cases a <;> rfl
  refine Eq.trans ?_ ((congrArg (Cert.ReferenceIdeal.Values.prod A B) hI).trans (Cert.ReferenceIdeal.Values.prod_apply A B (I 0) (I 1))).symm
  unfold Cert.KernelIdeal.Values.prod
  refine Finset.sum_congr rfl fun k _ => ?_
  rw [(h c).1, (h c).2, Layout.block_apply]
  refine congrArg₂ (fun a b => A a * B b) ?_ ?_
  · funext a; apply Fin.ext
    fin_cases a
    · exact h0.symm
    · rfl
  · funext a; apply Fin.ext
    fin_cases a
    · rfl
    · exact h1.symm

theorem gmax_eq (h : Match m A B) (c : Dev Cert.KernelIdeal.nD) (j : Cert.ReferenceIdeal.S_.Idx) :
    Cert.KernelIdeal.Values.gmax m c = Cert.ReferenceIdeal.Values.top (Cert.ReferenceIdeal.Values.prod A B) j := by
  refine eq_of_forall_ge_iff fun g => ?_
  rw [Cert.KernelIdeal.Values.gmax_bound, Cert.ReferenceIdeal.Values.top_le]
  constructor
  · intro H I
    have hI : (I 0).val < 4096 := (I 0).isLt
    have := H ⟨(I 0).val / 1024, by show _ < 4; omega⟩ (ix2 ⟨(I 0).val % 1024, Nat.mod_lt _ (by decide)⟩ (I 1))
    rwa [prod_eq h _ _ I (by show (I 0).val = (I 0).val / 1024 * 1024 + (I 0).val % 1024; omega) rfl] at this
  · intro H d i
    have hd : d.val < 4 := d.isLt
    have hi : (i 0).val < 1024 := (i 0).isLt
    rw [prod_eq h d i (ix2 ⟨d.val * 1024 + (i 0).val, by omega⟩ (i 1)) rfl rfl]
    exact H _

theorem result_eq (h : Match m A B) (c : Dev Cert.KernelIdeal.nD) :
    Cert.KernelIdeal.Values.result m c = Layout.block ⟨2, ![4096, 2048]⟩ ⟨2, ![4096, 8192]⟩ 1 4 c
      (Cert.ReferenceIdeal.Values.coded (Cert.ReferenceIdeal.Values.prod A B) (Cert.ReferenceIdeal.Values.top (Cert.ReferenceIdeal.Values.prod A B))) := by
  funext i
  rw [Layout.block_apply, Cert.ReferenceIdeal.Values.coded_apply]
  unfold Cert.KernelIdeal.Values.result
  rw [gmax_eq h c Cert.ReferenceIdeal.Values.j0]
  generalize Cert.ReferenceIdeal.Values.top (Cert.ReferenceIdeal.Values.prod A B) Cert.ReferenceIdeal.Values.j0 = g
  refine congrArg (fun y => quant y g) ?_
  refine prod_eq h _ _ _ ?_ ?_
  · show (i 0).val = (i 0).val / 1024 * 1024 + (i 0).val % 1024
    omega
  · show c.val * 2048 + (i 1).val = 2048 * c.val + (i 1).val
    omega

end

theorem algebraic : Cert.algebraic_KernelIdeal_ReferenceIdeal := fun m g m' g' _ hm => by
  let A : FVec Ideal Cert.ReferenceIdeal.S4096x4096 .f32 :=
    m' (((0 : Dev Cert.ReferenceIdeal.nD).tc : Thread Cert.ReferenceIdeal.nD Cert.ReferenceIdeal.τ).loc Cert.ReferenceIdeal.main_arg0)
  let B : FVec Ideal Cert.ReferenceIdeal.S4096x8192 .f32 :=
    m' (((0 : Dev Cert.ReferenceIdeal.nD).tc : Thread Cert.ReferenceIdeal.nD Cert.ReferenceIdeal.τ).loc Cert.ReferenceIdeal.main_arg1)
  refine ⟨Cert.ReferenceIdeal.Values.coded (Cert.ReferenceIdeal.Values.prod A B)
    (Cert.ReferenceIdeal.Values.top (Cert.ReferenceIdeal.Values.prod A B)), ?_, ?_⟩
  · exact (θ_run Cert.KernelIdeal.defs _ _).mono
      (fun _ h c => ⟨((h.1 c).2.2.trans (Cert.KernelIdeal.Values.final m c)).trans (result_eq (A := A) (B := B) hm c), (h.1 c).1, (h.1 c).2.1⟩)
      (Cert.KernelIdeal.Talk.run_main (F := Ideal) m g)
  · exact (θ_run Cert.ReferenceIdeal.defs _ _).mono (fun _ h => h 0) (Cert.ReferenceIdeal.Value.run (F := Ideal) m' g')

end Cert.Proof

end
-- ==== Proof.lean ====
module

public import proofs.«01_k».proof.Proof.Gen.Own.KernelIdeal.K2.Frame
public import proofs.«01_k».proof.Proof.Gen.Own.KernelIdeal.RegionsD
public import proofs.«01_k».proof.Proof.Gen.ReferenceIdeal.Run
public import proofs.«01_k».proof.Proof.Frames
public import proofs.«01_k».proof.Proof.Algebraic
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
